-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x3C2AAAAB#32 ((1 / 96 : ℝ) : EReal)
  ∧ IdealRules.named_const.Statement Cert.KernelIdeal.κ "inv_sqrt_d" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x16x96 : Shape := ⟨3, ![64, 16, 96]⟩
abbrev S64x32x32x96 : Shape := ⟨4, ![64, 32, 32, 96]⟩
abbrev S96x96 : Shape := ⟨2, ![96, 96]⟩
abbrev S_ : Shape := ⟨0, ![]⟩

class Facts : Prop where
  bcast_S_S64x32x32x96 : S_.BroadcastsInDim S64x32x32x96 (![] : Fin 0 → Fin S64x32x32x96.rank)
  bcast_S_S96x96 : S_.BroadcastsInDim S96x96 (![] : Fin 0 → Fin S96x96.rank)

variable [Facts]

def fn {F : FTy → Type} [FloatOps F] (main_arg0 : FVec F S64x16x96 .f32) (main_arg1 : FVec F S64x32x32x96 .f32) (main_arg2 : FVec F S96x96 .f32) (main_arg3 : FVec F S96x96 .f32) (main_arg4 : FVec F S96x96 .f32) (main_arg5 : FVec F S96x96 .f32) (main_arg6 : FVec F S96x96 .f32) : IVec S64x32x32x96 1 × IVec S96x96 1 × IVec S96x96 1 × IVec S96x96 1 :=
  let main_v0 : FVec F S64x32x32x96 .f32 := Host.absf main_arg1
  let main_cst : FVec F S_ .f32 := constant S_ .f32 0x7F800000#32
  let main_v1 : FVec F S64x32x32x96 .f32 := broadcastInDim S64x32x32x96 ![] bcast_S_S64x32x32x96 main_cst
  let main_v2 : IVec S64x32x32x96 1 := cmpf .olt main_v0 main_v1
  let main_v3 : FVec F S96x96 .f32 := Host.absf main_arg2
  let main_cst_0 : FVec F S_ .f32 := constant S_ .f32 0x7F800000#32
  let main_v4 : FVec F S96x96 .f32 := broadcastInDim S96x96 ![] bcast_S_S96x96 main_cst_0
  let main_v5 : IVec S96x96 1 := cmpf .olt main_v3 main_v4
  let main_v6 : FVec F S96x96 .f32 := Host.absf main_arg3
  let main_cst_1 : FVec F S_ .f32 := constant S_ .f32 0x7F800000#32
  let main_v7 : FVec F S96x96 .f32 := broadcastInDim S96x96 ![] bcast_S_S96x96 main_cst_1
  let main_v8 : IVec S96x96 1 := cmpf .olt main_v6 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  (main_v2, main_v5, main_v8, main_v11)
-- ==== Kernel.lean ====
abbrev S64x16x96 : Shape := ⟨3, ![64, 16, 96]⟩
abbrev S64x32x32x96 : Shape := ⟨4, ![64, 32, 32, 96]⟩
abbrev S96x96 : Shape := ⟨2, ![96, 96]⟩
abbrev S64x1024x96 : Shape := ⟨3, ![64, 1024, 96]⟩
abbrev S64x16x1024 : Shape := ⟨3, ![64, 16, 1024]⟩
abbrev S16x16x96 : Shape := ⟨3, ![16, 16, 96]⟩
abbrev S16x1024x96 : Shape := ⟨3, ![16, 1024, 96]⟩
abbrev S16x16x1024 : Shape := ⟨3, ![16, 16, 1024]⟩
abbrev S8x96 : Shape := ⟨2, ![8, 96]⟩
abbrev S1x96 : Shape := ⟨2, ![1, 96]⟩
abbrev S256x96 : Shape := ⟨2, ![256, 96]⟩
abbrev S256 : Shape := ⟨1, ![256]⟩
abbrev S256x1 : Shape := ⟨2, ![256, 1]⟩
abbrev S256x8 : Shape := ⟨2, ![256, 8]⟩
abbrev S1x1024x96 : Shape := ⟨3, ![1, 1024, 96]⟩
abbrev S1024x96 : Shape := ⟨2, ![1024, 96]⟩
abbrev S8x1024 : Shape := ⟨2, ![8, 1024]⟩
abbrev S1x1024 : Shape := ⟨2, ![1, 1024]⟩
abbrev S16x96 : Shape := ⟨2, ![16, 96]⟩
abbrev S24x96 : Shape := ⟨2, ![24, 96]⟩
abbrev S24x1024 : Shape := ⟨2, ![24, 1024]⟩
abbrev S16x1 : Shape := ⟨2, ![16, 1]⟩
abbrev S16x1024 : Shape := ⟨2, ![16, 1024]⟩
abbrev S1024 : Shape := ⟨1, ![1024]⟩
abbrev S1x16x1024 : Shape := ⟨3, ![1, 16, 1024]⟩
abbrev S128x1024 : Shape := ⟨2, ![128, 1024]⟩
abbrev S7x1024 : Shape := ⟨2, ![7, 1024]⟩
abbrev S128x16 : Shape := ⟨2, ![128, 16]⟩
abbrev S128x1 : Shape := ⟨2, ![128, 1]⟩
abbrev S128x8 : Shape := ⟨2, ![128, 8]⟩
abbrev S128 : Shape := ⟨1, ![128]⟩
abbrev S128x128 : Shape := ⟨2, ![128, 128]⟩
abbrev S128x96 : Shape := ⟨2, ![128, 96]⟩
abbrev S8x16x96 : Shape := ⟨3, ![8, 16, 96]⟩

abbrev nBuf : Space → Nat
  | .hbm => 10
  | .vmem => 13
  | .smem => 0
  | _ => 0

abbrev bufTy : (tb : Table) → Fin (tcTables nBuf tb) → BufTy
  | .hbm, ⟨0, _⟩ => ⟨S64x16x96, .f32⟩
  | .hbm, ⟨1, _⟩ => ⟨S64x32x32x96, .f32⟩
  | .hbm, ⟨2, _⟩ => ⟨S96x96, .f32⟩
  | .hbm, ⟨3, _⟩ => ⟨S96x96, .f32⟩
  | .hbm, ⟨4, _⟩ => ⟨S96x96, .f32⟩
  | .hbm, ⟨5, _⟩ => ⟨S96x96, .f32⟩
  | .hbm, ⟨6, _⟩ => ⟨S96x96, .f32⟩
  | .hbm, ⟨7, _⟩ => ⟨S64x1024x96, .f32⟩
  | .hbm, ⟨8, _⟩ => ⟨S64x16x96, .f32⟩
  | .hbm, ⟨9, _⟩ => ⟨S64x16x1024, .f32⟩
  | .local _ .vmem, ⟨0, _⟩ => ⟨S16x16x96, .f32⟩
  | .local _ .vmem, ⟨1, _⟩ => ⟨S16x16x96, .f32⟩
  | .local _ .vmem, ⟨2, _⟩ => ⟨S16x1024x96, .f32⟩
  | .local _ .vmem, ⟨3, _⟩ => ⟨S16x1024x96, .f32⟩
  | .local _ .vmem, ⟨4, _⟩ => ⟨S96x96, .f32⟩
  | .local _ .vmem, ⟨5, _⟩ => ⟨S96x96, .f32⟩
  | .local _ .vmem, ⟨6, _⟩ => ⟨S96x96, .f32⟩
  | .local _ .vmem, ⟨7, _⟩ => ⟨S96x96, .f32⟩
  | .local _ .vmem, ⟨8, _⟩ => ⟨S96x96, .f32⟩
  | .local _ .vmem, ⟨9, _⟩ => ⟨S16x16x96, .f32⟩
  | .local _ .vmem, ⟨10, _⟩ => ⟨S16x16x96, .f32⟩
  | .local _ .vmem, ⟨11, _⟩ => ⟨S16x16x1024, .f32⟩
  | .local _ .vmem, ⟨12, _⟩ => ⟨S16x16x1024, .f32⟩
  | _, _ => ⟨S64x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x16x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_d" => some ((1 / 96 : ℝ) : EReal)
  | "inv_sqrt_d" => some (((Real.sqrt 96)⁻¹ : ℝ) : EReal)
  | _ => none
-- ==== ReferenceIdeal.lean ====
abbrev S64x16x96 : Shape := ⟨3, ![64, 16, 96]⟩
abbrev S64x32x32x96 : Shape := ⟨4, ![64, 32, 32, 96]⟩
abbrev S96x96 : Shape := ⟨2, ![96, 96]⟩
abbrev S64x1024x96 : Shape := ⟨3, ![64, 1024, 96]⟩
abbrev S_ : Shape := ⟨0, ![]⟩
abbrev S64x1024 : Shape := ⟨2, ![64, 1024]⟩
abbrev S64x1024x1 : Shape := ⟨3, ![64, 1024, 1]⟩
abbrev S64x16 : Shape := ⟨2, ![64, 16]⟩
abbrev S64x16x1 : Shape := ⟨3, ![64, 16, 1]⟩
abbrev S64x16x1024 : Shape := ⟨3, ![64, 16, 1024]⟩
abbrev S64x1x1024 : Shape := ⟨3, ![64, 1, 1024]⟩
abbrev S64x16x16 : Shape := ⟨3, ![64, 16, 16]⟩

abbrev nBuf : Space → Nat
  | .hbm => 138
  | .vmem => 0
  | .smem => 0
  | _ => 0

abbrev hbmTy0_0 (i : Nat) : BufTy := match i % 128 with
  | 0 => ⟨S64x16x96, .f32⟩
  | 1 => ⟨S64x32x32x96, .f32⟩
  | 2 => ⟨S96x96, .f32⟩
  | 3 => ⟨S96x96, .f32⟩
  | 4 => ⟨S96x96, .f32⟩
  | 5 => ⟨S96x96, .f32⟩
  | 6 => ⟨S96x96, .f32⟩
  | 7 => ⟨S64x1024x96, .f32⟩
  | 8 => ⟨S_, .f32⟩
  | 9 => ⟨S64x1024, .f32⟩
  | 10 => ⟨S64x1024x1, .f32⟩
  | 11 => ⟨S_, .f32⟩
  | 12 => ⟨S64x1024x1, .f32⟩
  | 13 => ⟨S64x1024x1, .f32⟩
  | 14 => ⟨S_, .i32⟩
  | 15 => ⟨S_, .f32⟩
  | 16 => ⟨S64x1024, .f32⟩
  | 17 => ⟨S64x1024x1, .f32⟩
  | 18 => ⟨S_, .f32⟩
  | 19 => ⟨S64x1024x1, .f32⟩
  | 20 => ⟨S64x1024x1, .f32⟩
  | 21 => ⟨S64x1024x96, .f32⟩
  | 22 => ⟨S64x1024x96, .f32⟩
  | 23 => ⟨S64x1024x96, .f32⟩
  | 24 => ⟨S_, .f32⟩
  | 25 => ⟨S_, .f32⟩
  | 26 => ⟨S_, .f32⟩
  | 27 => ⟨S_, .f32⟩
  | 28 => ⟨S64x1024, .f32⟩
  | 29 => ⟨S64x1024x1, .f32⟩
  | 30 => ⟨S64x1024x1, .f32⟩
  | 31 => ⟨S64x1024x1, .f32⟩
  | 32 => ⟨S_, .f32⟩
  | 33 => ⟨S_, .i1⟩
  | 34 => ⟨S_, .f32⟩
  | 35 => ⟨S_, .f32⟩
  | 36 => ⟨S64x1024x1, .f32⟩
  | 37 => ⟨S64x1024x1, .f32⟩
  | 38 => ⟨S64x1024x96, .f32⟩
  | 39 => ⟨S64x1024x96, .f32⟩
  | 40 => ⟨S_, .f32⟩
  | 41 => ⟨S64x1024x1, .f32⟩
  | 42 => ⟨S64x1024x1, .f32⟩
  | 43 => ⟨S64x1024x1, .f32⟩
  | 44 => ⟨S64x1024x96, .f32⟩
  | 45 => ⟨S64x1024x96, .f32⟩
  | 46 => ⟨S_, .f32⟩
  | 47 => ⟨S64x16, .f32⟩
  | 48 => ⟨S64x16x1, .f32⟩
  | 49 => ⟨S_, .f32⟩
  | 50 => ⟨S64x16x1, .f32⟩
  | 51 => ⟨S64x16x1, .f32⟩
  | 52 => ⟨S_, .i32⟩
  | 53 => ⟨S_, .f32⟩
  | 54 => ⟨S64x16, .f32⟩
  | 55 => ⟨S64x16x1, .f32⟩
  | 56 => ⟨S_, .f32⟩
  | 57 => ⟨S64x16x1, .f32⟩
  | 58 => ⟨S64x16x1, .f32⟩
  | 59 => ⟨S64x16x96, .f32⟩
  | 60 => ⟨S64x16x96, .f32⟩
  | 61 => ⟨S64x16x96, .f32⟩
  | 62 => ⟨S_, .f32⟩
  | 63 => ⟨S_, .f32⟩
  | 64 => ⟨S_, .f32⟩
  | 65 => ⟨S_, .f32⟩
  | 66 => ⟨S64x16, .f32⟩
  | 67 => ⟨S64x16x1, .f32⟩
  | 68 => ⟨S64x16x1, .f32⟩
  | 69 => ⟨S64x16x1, .f32⟩
  | 70 => ⟨S_, .f32⟩
  | 71 => ⟨S_, .i1⟩
  | 72 => ⟨S_, .f32⟩
  | 73 => ⟨S_, .f32⟩
  | 74 => ⟨S64x16x1, .f32⟩
  | 75 => ⟨S64x16x1, .f32⟩
  | 76 => ⟨S64x16x96, .f32⟩
  | 77 => ⟨S64x16x96, .f32⟩
  | 78 => ⟨S_, .f32⟩
  | 79 => ⟨S64x16x1, .f32⟩
  | 80 => ⟨S64x16x1, .f32⟩
  | 81 => ⟨S64x16x1, .f32⟩
  | 82 => ⟨S64x16x96, .f32⟩
  | 83 => ⟨S64x16x96, .f32⟩
  | 84 => ⟨S64x16x96, .f32⟩
  | 85 => ⟨S64x1024x96, .f32⟩
  | 86 => ⟨S64x1024x96, .f32⟩
  | 87 => ⟨S64x16x1024, .f32⟩
  | 88 => ⟨S_, .f32⟩
  | 89 => ⟨S_, .f32⟩
  | 90 => ⟨S64x16x1024, .f32⟩
  | 91 => ⟨S64x16x1024, .f32⟩
  | 92 => ⟨S_, .f32⟩
  | 93 => ⟨S64x1024, .f32⟩
  | 94 => ⟨S_, .f32⟩
  | 95 => ⟨S64x1024, .f32⟩
  | 96 => ⟨S64x1024, .f32⟩
  | 97 => ⟨S64x1x1024, .f32⟩
  | 98 => ⟨S64x16x1024, .f32⟩
  | 99 => ⟨S64x16x1024, .f32⟩
  | 100 => ⟨S64x16x1024, .f32⟩
  | 101 => ⟨S_, .f32⟩
  | 102 => ⟨S64x1024, .f32⟩
  | 103 => ⟨S64x1x1024, .f32⟩
  | 104 => ⟨S64x16x1024, .f32⟩
  | 105 => ⟨S64x16x1024, .f32⟩
  | 106 => ⟨S_, .f32⟩
  | 107 => ⟨S64x16, .f32⟩
  | 108 => ⟨S64x16x1, .f32⟩
  | 109 => ⟨S_, .f32⟩
  | 110 => ⟨S64x16x1, .f32⟩
  | 111 => ⟨S64x16x1, .f32⟩
  | 112 => ⟨S64x16x1024, .f32⟩
  | 113 => ⟨S64x16x1024, .f32⟩
  | 114 => ⟨S64x16x96, .f32⟩
  | 115 => ⟨S64x16x96, .f32⟩
  | 116 => ⟨S64x16x96, .f32⟩
  | 117 => ⟨S64x16x16, .f32⟩
  | 118 => ⟨S_, .f32⟩
  | 119 => ⟨S64x16, .f32⟩
  | 120 => ⟨S64x16x1, .f32⟩
  | 121 => ⟨S_, .f32⟩
  | 122 => ⟨S64x16x1, .f32⟩
  | 123 => ⟨S64x16x1, .f32⟩
  | 124 => ⟨S64x16x16, .f32⟩
  | 125 => ⟨S64x16x16, .f32⟩
  | 126 => ⟨S64x16x96, .f32⟩
  | 127 => ⟨S64x16x96, .f32⟩
  | _ => ⟨S64x16x96, .f32⟩

abbrev hbmTy0_1 (i : Nat) : BufTy := match i % 128 with
  | 0 => ⟨S_, .f32⟩
  | 1 => ⟨S64x16x96, .f32⟩
  | 2 => ⟨S64x16x96, .f32⟩
  | 3 => ⟨S_, .f32⟩
  | 4 => ⟨S64x16x96, .f32⟩
  | 5 => ⟨S64x16x96, .f32⟩
  | 6 => ⟨S_, .f32⟩
  | 7 => ⟨S64x16x96, .f32⟩
  | 8 => ⟨S64x16x96, .f32⟩
  | 9 => ⟨S64x16x96, .f32⟩
  | _ => ⟨S64x16x96, .f32⟩

abbrev hbmTy (i : Nat) : BufTy := match i / 128 with
  | 0 => hbmTy0_0 i
  | 1 => hbmTy0_1 i
  | _ => ⟨S64x16x96, .f32⟩

abbrev bufTy : (tb : Table) → Fin (tcTables nBuf tb) → BufTy
  | .hbm, ⟨i, _⟩ => hbmTy i
  | _, _ => ⟨S64x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_cst_3 : Ref sig .tc := ⟨.hbm, 49, rfl⟩
abbrev main_v15 : Ref sig .tc := ⟨.hbm, 50, rfl⟩
abbrev main_v16 : Ref sig .tc := ⟨.hbm, 51, rfl⟩
abbrev main_c_4 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_cst_3 : Ref sig .tc := ⟨.hbm, 70, rfl⟩
abbrev main_call1_v13 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_cst_5 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_6 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_7 : Ref sig .tc := ⟨.hbm, 92, rfl⟩
abbrev main_v32 : Ref sig .tc := ⟨.hbm, 93, rfl⟩
abbrev main_cst_8 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_9 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_10 : Ref sig .tc := ⟨.hbm, 106, rfl⟩
abbrev main_v43 : Ref sig .tc := ⟨.hbm, 107, rfl⟩
abbrev main_v44 : Ref sig .tc := ⟨.hbm, 108, rfl⟩
abbrev main_cst_11 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_12 : Ref sig .tc := ⟨.hbm, 118, rfl⟩
abbrev main_v53 : Ref sig .tc := ⟨.hbm, 119, rfl⟩
abbrev main_v54 : Ref sig .tc := ⟨.hbm, 120, rfl⟩
abbrev main_cst_13 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_call2_cst : Ref sig .tc := ⟨.hbm, 128, rfl⟩
abbrev main_call2_v0 : Ref sig .tc := ⟨.hbm, 129, rfl⟩
abbrev main_v61 : Ref sig .tc := ⟨.hbm, 130, rfl⟩
abbrev main_cst_14 : Ref sig .tc := ⟨.hbm, 131, rfl⟩
abbrev main_v62 : Ref sig .tc := ⟨.hbm, 132, rfl⟩
abbrev main_v63 : Ref sig .tc := ⟨.hbm, 133, rfl⟩
abbrev main_cst_15 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩

abbrev nD : Nat := 1
abbrev τ : Topo := Topo.v7x

variable {F : FTy → Type} [FloatOps F]
-- ==== Proof.Terms.lean ====
/- The values one grid point of the kernel computes, written once for all sixteen batch elements of
   the block: each printed value of a batch element, or of a group of eight of them, is one of these
   terms at that batch element or group. -/
module

public import proofs.«01_k».proof.Proof.Gen.KernelIdeal.Frame

@[expose] public section

set_option maxRecDepth 16384

noncomputable section

namespace Cert.KernelIdeal.Terms

open Idealize.ShloMosaic Idealize.SL.Sem Cert.KernelIdeal Cert.KernelIdeal.Gen

variable {F : FTy → Type} [FloatOps F] [Named F]

/-! ## One batch element -/

theorem inbX (i : Fin 16) : ∀ a, (![i.val, 0, 0] : Fin 3 → Nat) a + S1x1024x96.size a ≤ S16x1024x96.size a := by
  revert i; decide

theorem inbA (i : Fin 16) : ∀ a, (![i.val, 0, 0] : Fin 3 → Nat) a + S1x16x1024.size a ≤ S16x16x1024.size a := by
  revert i; decide

theorem inbS (g : Fin 2) : ∀ a, (![8 * g.val, 0, 0] : Fin 3 → Nat) a + S8x16x96.size a ≤ S16x16x96.size a := by
  revert g; decide

theorem slicesQ (i : Fin 16) : S256x96.Slices ![16 * i.val, 0] S16x96 := by revert i; decide

theorem slicesC (i : Fin 16) : S256x1.Slices ![16 * i.val, 0] S16x1 := by revert i; decide

/-- The part of the input block that holds batch element `i`. -/
abbrev rectX (i : Fin 16) : Rect S16x1024x96 := Rect.unit (s := S16x1024x96) ![i.val, 0, 0] S1x1024x96.size (inbX i)

/-- The part of the attention block that batch element `i` is stored to. -/
abbrev rectA (i : Fin 16) : Rect S16x16x1024 := Rect.unit (s := S16x16x1024) ![i.val, 0, 0] S1x16x1024.size (inbA i)

/-- The part of the slots block that group `g` of eight batch elements reads and is stored to. -/
abbrev rectS (g : Fin 2) : Rect S16x16x96 := Rect.unit (s := S16x16x96) ![8 * g.val, 0, 0] S8x16x96.size (inbS g)

/-- The queries through the key weights, and below them ones, against the inputs: the raw logits and
    the inputs' sums. -/
def raw (i : Fin 16) (qk : FVec F S256x96 .f32) (x : Vec F S1x1024x96 .f32) : FVec F S24x1024 .f32 :=
  matmul dot_S24x96_S1024x96_S24x1024_1_1_0_0_n_n none
    (concatenate S24x96 0 [⟨S16x96, extractStridedSlice S16x96 ![16 * i.val, 0] qk (slicesQ i)⟩, ⟨S8x96, k0_pay2 (F := F)⟩]
      concatenates_S16x96_S8x96_S24x96_d0)
    (shapeCast S1024x96 x shapeCasts_S1x1024x96_S1024x96) (constant S24x1024 .f32 0x00000000#32)

/-- The exponentials of the logits. -/
def ex (i : Fin 16) (qck : FVec F S256x1 .f32) (mu iss : FVec F S1x1024 .f32) (r : FVec F S24x1024 .f32) : FVec F S16x1024 .f32 :=
  have g : FVec F S1x1024 .f32 := mulf iss (broadcast S1x1024 (Named.named κ "inv_sqrt_d" 0x3DD105EC#32))
  exp (subf
    (mulf (broadcastTo S16x1024 g broadcasts_S1x1024_S16x1024)
      (extractStridedSlice S16x1024 ![0, 0] r slices_S24x1024_o0_0_S16x1024))
    (mulf (broadcastTo S16x1024 (mulf mu g) broadcasts_S1x1024_S16x1024)
      (broadcastTo S16x1024 (extractStridedSlice S16x1 ![16 * i.val, 0] qck (slicesC i)) broadcasts_S16x1_S16x1024)))

/-- The sums of the exponentials over the slots. -/
def exSum (e : FVec F S16x1024 .f32) : FVec F S1x1024 .f32 :=
  shapeCast S1x1024 (multiReduction .add [0] S1024 e 0x00000000#32 reduces_S16x1024_S1024 (.inl rfl) rfl) shapeCasts_S1024_S1x1024

section Block

variable (x0 : Vec F S16x16x96 .f32) (x1 : Vec F S16x1024x96 .f32) (x2 x3 x4 x5 x6 : Vec F S96x96 .f32)

/-- Batch element `i`'s inputs. -/
def X (i : Fin 16) : Vec F S1x1024x96 .f32 := View.ld x1 (rectX i)

/-- All queries through the key weights. -/
def QK : FVec F S256x96 .f32 := k0_pay6 (View.ld x2 r0_0) (View.ld x3 r0_0) (View.ld x0 r0_1)

/-- All queries against the key weights' column sums. -/
def QCK : FVec F S256x1 .f32 := k0_pay7 (View.ld x2 r0_0) (View.ld x3 r0_0) (View.ld x0 r0_1)

/-- Batch element `i`'s raw logits and input sums. -/
def RAW (i : Fin 16) : FVec F S24x1024 .f32 := raw i (QK x0 x2 x3) (X x1 i)

/-- Batch element `i`'s input means. -/
def MU (i : Fin 16) : FVec F S1x1024 .f32 := k0_pay33 (RAW x0 x1 x2 x3 i)

/-- Batch element `i`'s reciprocal standard deviations. -/
def ISS (i : Fin 16) : FVec F S1x1024 .f32 := k0_pay34 (k0_pay9 (k0_pay3 (F := F)) (X x1 i)) (RAW x0 x1 x2 x3 i)

/-- Batch element `i`'s exponentials. -/
def EX (i : Fin 16) : FVec F S16x1024 .f32 :=
  ex i (QCK x0 x2 x3) (MU x0 x1 x2 x3 i) (ISS x0 x1 x2 x3 i) (RAW x0 x1 x2 x3 i)

/-- Batch element `i`'s attention. -/
def ATT (i : Fin 16) : FVec F S16x1024 .f32 := k0_pay38 (EX x0 x1 x2 x3 i) (exSum (EX x0 x1 x2 x3 i))

/-- Batch element `i`'s attention times the reciprocal standard deviations. -/
def WS (i : Fin 16) : FVec F S16x1024 .bf16 := k0_pay39 (ISS x0 x1 x2 x3 i) (EX x0 x1 x2 x3 i) (exSum (EX x0 x1 x2 x3 i))

/-- Batch element `i`'s means times the reciprocal standard deviations. -/
def ZZ (i : Fin 16) : FVec F S1x1024 .f32 := k0_pay40 (MU x0 x1 x2 x3 i) (ISS x0 x1 x2 x3 i)

/-- What batch element `i` stores to the attention block. -/
def STA (i : Fin 16) : FVec F S1x16x1024 .f32 := shapeCast S1x16x1024 (ATT x0 x1 x2 x3 i) shapeCasts_S16x1024_S1x16x1024

end Block

/-! ## A group of eight batch elements -/

/-- Eight attentions stacked by rows. -/
def stackA (a : Fin 8 → FVec F S16x1024 .f32) : FVec F S128x1024 .f32 :=
  concatenate S128x1024 0 [⟨S16x1024, a 0⟩, ⟨S16x1024, a 1⟩, ⟨S16x1024, a 2⟩, ⟨S16x1024, a 3⟩, ⟨S16x1024, a 4⟩, ⟨S16x1024, a 5⟩, ⟨S16x1024, a 6⟩, ⟨S16x1024, a 7⟩]
    concatenates_S16x1024_S16x1024_S16x1024_S16x1024_S16x1024_S16x1024_S16x1024_S16x1024_S128x1024_d0

/-- A row of ones, eight rows and seven rows of zeros stacked. -/
def stackZ (z : Fin 8 → FVec F S1x1024 .f32) : FVec F S16x1024 .f32 :=
  concatenate S16x1024 0 [⟨S1x1024, broadcast S1x1024 (Scalar.ofBits .f32 0x3F800000#32)⟩, ⟨S1x1024, z 0⟩, ⟨S1x1024, z 1⟩, ⟨S1x1024, z 2⟩, ⟨S1x1024, z 3⟩, ⟨S1x1024, z 4⟩, ⟨S1x1024, z 5⟩, ⟨S1x1024, z 6⟩, ⟨S1x1024, z 7⟩, ⟨S7x1024, broadcast S7x1024 (Scalar.ofBits .f32 0x00000000#32)⟩]
    concatenates_S1x1024_S1x1024_S1x1024_S1x1024_S1x1024_S1x1024_S1x1024_S1x1024_S1x1024_S7x1024_S16x1024_d0

/-- Eight 16 × 96 arrays stacked by rows. -/
def stackT (t : Fin 8 → FVec F S16x96 .f32) : FVec F S128x96 .f32 :=
  concatenate S128x96 0 [⟨S16x96, t 0⟩, ⟨S16x96, t 1⟩, ⟨S16x96, t 2⟩, ⟨S16x96, t 3⟩, ⟨S16x96, t 4⟩, ⟨S16x96, t 5⟩, ⟨S16x96, t 6⟩, ⟨S16x96, t 7⟩]
    concatenates_S16x96_S16x96_S16x96_S16x96_S16x96_S16x96_S16x96_S16x96_S128x96_d0

/-- The attentions' sums over the positions: plain, and weighted by each batch element's `z`. -/
def res (a : FVec F S128x1024 .f32) (z : FVec F S16x1024 .f32) : FVec F S128x16 .f32 :=
  matmul dot_S128x1024_S16x1024_S128x16_1_1_0_0_n_n none a z (constant S128x16 .f32 0x00000000#32)

/-- The plain sums. -/
def rs (r : FVec F S128x16 .f32) : FVec F S128x1 .f32 := extractStridedSlice S128x1 ![0, 0] r slices_S128x16_o0_0_S128x1

/-- The weighted sums, each row's own batch element picked out of the eight. -/
def am (r : FVec F S128x16 .f32) : FVec F S128x1 .f32 :=
  k0_pay107 r (iota .tc S128x8 32 [0] iota_S128x8_d0_w32) 16#32 k0_pay104 k0_pay105 k0_pay106

/-- The normalised adjacency, zero between different batch elements. -/
def adjBd (a : FVec F S128x1024 .f32) : FVec F S128x128 .f32 := k0_pay111 (k0_pay108 a) k0_pay109 k0_pay110 1#32

/-- The attention-weighted input sums of one batch element. -/
def tt (w : FVec F S16x1024 .bf16) (x : Vec F S1x1024x96 .f32) : FVec F S16x96 .f32 :=
  matmul dot_S16x1024_S1024x96_S16x96_1_0_0_1_n_n none w (k0_pay8 x) (constant S16x96 .f32 0x00000000#32)

/-- The updates of a group: the weighted sums normalised and projected, less the folded means. -/
def updG (wv : Vec F S96x96 .f32) (cv : FVec F S1x96 .f32) (t : FVec F S128x96 .f32) (r m : FVec F S128x1 .f32) : FVec F S128x96 .f32 :=
  have rinv : FVec F S128x1 .f32 := divf (broadcast S128x1 (Scalar.ofBits .f32 0x3F800000#32)) (addf r (broadcast S128x1 (Scalar.ofBits .f32 0x322BCC77#32)))
  subf (matmul dot_S128x96_S96x96_S128x96_1_0_0_1_n_n none (mulf t (broadcastTo S128x96 rinv broadcasts_S128x1_S128x96)) wv (constant S128x96 .f32 0x00000000#32))
    (mulf (broadcastTo S128x96 (mulf m rinv) broadcasts_S128x1_S128x96) (broadcastTo S128x96 cv broadcasts_S1x96_S128x96))

/-- The slots after the attention step. -/
def saG (wu : Vec F S96x96 .f32) (s : Vec F S8x16x96 .f32) (u : FVec F S128x96 .f32) : FVec F S128x96 .f32 :=
  addf (shapeCast S128x96 s shapeCasts_S8x16x96_S128x96)
    (matmul dot_S128x96_S96x96_S128x96_1_0_0_1_n_n none u wu (constant S128x96 .f32 0x00000000#32))

/-- The graph step. -/
def outG (wg : Vec F S96x96 .f32) (ad : FVec F S128x128 .f32) (y : FVec F S128x96 .f32) : FVec F S128x96 .f32 :=
  addf y (maximumf
    (matmul dot_S128x96_S96x96_S128x96_1_0_0_1_n_n none
      (matmul dot_S128x128_S128x96_S128x96_1_0_0_1_n_n none ad y (constant S128x96 .f32 0x00000000#32)) wg
      (constant S128x96 .f32 0x00000000#32))
    (broadcast S128x96 (Scalar.ofBits .f32 0x00000000#32)))

section Block

variable (x0 : Vec F S16x16x96 .f32) (x1 : Vec F S16x1024x96 .f32) (x2 x3 x4 x5 x6 : Vec F S96x96 .f32)

/-- Batch element `k` of group `g`, as a batch element of the block. -/
abbrev el (g : Fin 2) (k : Fin 8) : Fin 16 := ⟨8 * g.val + k.val, by omega⟩

/-- Group `g`'s stacked attentions. -/
def ASTK (g : Fin 2) : FVec F S128x1024 .f32 := stackA fun k => ATT x0 x1 x2 x3 (el g k)

/-- Group `g`'s sums of the attention. -/
def RES (g : Fin 2) : FVec F S128x16 .f32 := res (ASTK x0 x1 x2 x3 g) (stackZ fun k => ZZ x0 x1 x2 x3 (el g k))

/-- Group `g`'s slots after the attention step. -/
def SA (g : Fin 2) : FVec F S128x96 .f32 :=
  saG (View.ld x5 r0_0) (View.ld x0 (rectS g))
    (updG (View.ld x4 r0_0) (k0_pay4 (View.ld x4 r0_0)) (stackT fun k => tt (WS x0 x1 x2 x3 (el g k)) (X x1 (el g k)))
      (rs (RES x0 x1 x2 x3 g)) (am (RES x0 x1 x2 x3 g)))

/-- Group `g`'s new slots. -/
def OUT (g : Fin 2) : FVec F S128x96 .f32 := outG (View.ld x6 r0_0) (adjBd (ASTK x0 x1 x2 x3 g)) (SA x0 x1 x2 x3 x4 x5 g)

/-- What group `g` stores to the slots block. -/
def STO (g : Fin 2) : FVec F S8x16x96 .f32 := shapeCast S8x16x96 (OUT x0 x1 x2 x3 x4 x5 x6 g) shapeCasts_S128x96_S8x16x96

end Block

end Cert.KernelIdeal.Terms

end
-- ==== Proof.Bridge.lean ====
/- The kernel's two output blocks as stores of the terms of `Terms`. -/
module

public import proofs.«01_k».proof.Proof.Terms

@[expose] public section

set_option maxRecDepth 16384

noncomputable section

namespace Cert.KernelIdeal.Terms

open Idealize.ShloMosaic Idealize.SL.Sem Cert.KernelIdeal Cert.KernelIdeal.Gen

variable {F : FTy → Type} [FloatOps F] [Named F]
variable (x0 : Vec F S16x16x96 .f32) (x1 : Vec F S16x1024x96 .f32) (x2 x3 x4 x5 x6 : Vec F S96x96 .f32)

/-- The attention block is sixteen stores, one per batch element. -/
theorem out8_eq : out0_8 x0 x1 x2 x3 x4 x5 x6
    = View.canon [⟨rectA 15, STA x0 x1 x2 x3 15⟩, ⟨rectA 14, STA x0 x1 x2 x3 14⟩, ⟨rectA 13, STA x0 x1 x2 x3 13⟩,
        ⟨rectA 12, STA x0 x1 x2 x3 12⟩, ⟨rectA 11, STA x0 x1 x2 x3 11⟩, ⟨rectA 10, STA x0 x1 x2 x3 10⟩,
        ⟨rectA 9, STA x0 x1 x2 x3 9⟩, ⟨rectA 8, STA x0 x1 x2 x3 8⟩, ⟨rectA 7, STA x0 x1 x2 x3 7⟩,
        ⟨rectA 6, STA x0 x1 x2 x3 6⟩, ⟨rectA 5, STA x0 x1 x2 x3 5⟩, ⟨rectA 4, STA x0 x1 x2 x3 4⟩,
        ⟨rectA 3, STA x0 x1 x2 x3 3⟩, ⟨rectA 2, STA x0 x1 x2 x3 2⟩, ⟨rectA 1, STA x0 x1 x2 x3 1⟩,
        ⟨rectA 0, STA x0 x1 x2 x3 0⟩] := rfl

/-- The slots block is two stores, one per group. -/
theorem out7_eq : out0_7 x0 x1 x2 x3 x4 x5 x6
    = View.canon [⟨rectS 1, STO x0 x1 x2 x3 x4 x5 x6 1⟩, ⟨rectS 0, STO x0 x1 x2 x3 x4 x5 x6 0⟩] := rfl

end Cert.KernelIdeal.Terms

end
-- ==== Proof.Real.lean ====
/- The mathematics of one batch element in the real numbers, free of programs and arrays: the
   reference's formulas, the kernel's rearranged formulas, and the equations between them. -/
module

public import Idealize.ShloMosaic.PureOps.Ideal
public import Mathlib.Algebra.BigOperators.Field
public import Mathlib.Tactic.Ring
public import Mathlib.Tactic.NormNum
public import Mathlib.Tactic.Positivity
public import Mathlib.Tactic.Linarith

@[expose] public section

noncomputable section

namespace Cert.SlotMath

open Finset

/-- A vector of 96 features. -/
abbrev Feat := Fin 96 → ℝ

/-- A 96 × 96 weight matrix. -/
abbrev Wt := Fin 96 → Fin 96 → ℝ

/-! ## The reference's formulas -/

/-- The mean of a feature vector. -/
def mean (x : Feat) : ℝ := (∑ d, x d) / 96

/-- The variance of a feature vector. -/
def var (x : Feat) : ℝ := (∑ d, (x d - mean x) * (x d - mean x)) / 96

/-- The layer norm of a feature vector, with `ε` under the root. -/
def nrm (ε : ℝ) (x : Feat) (d : Fin 96) : ℝ := (x d - mean x) / Real.sqrt (var x + ε)

/-- A feature vector times a weight matrix. -/
def proj (x : Feat) (W : Wt) (d : Fin 96) : ℝ := ∑ e, x e * W e d

/-- The attention logit of a slot with layer norm `y` for an input `x`. -/
def logit (ε : ℝ) (Wq Wk : Wt) (y x : Feat) : ℝ :=
  (∑ d, proj y Wq d * proj (nrm ε x) Wk d) / Real.sqrt 96

/-- The softmax over the slots at position `n`. -/
def soft (L : Fin 16 → Fin 1024 → ℝ) (r : Fin 16) (n : Fin 1024) : ℝ :=
  Real.exp (L r n) / ∑ t, Real.exp (L t n)

/-- The update of slot `r`: the mean of the values under the row-normalised attention `A`. -/
def upd (δ : ℝ) (A : Fin 16 → Fin 1024 → ℝ) (V : Fin 1024 → Feat) (r : Fin 16) (d : Fin 96) : ℝ :=
  ∑ n, A r n / ((∑ n', A r n') + δ) * V n d

/-- The co-attention of two slots. -/
def co (A : Fin 16 → Fin 1024 → ℝ) (r t : Fin 16) : ℝ := ∑ n, A r n * A t n

/-- The row-normalised adjacency. -/
def adj (δ : ℝ) (A : Fin 16 → Fin 1024 → ℝ) (r t : Fin 16) : ℝ := co A r t / ((∑ t', co A r t') + δ)

/-- The attention of one batch element, whose slots have the layer norms `Y`. -/
def attn (ε : ℝ) (Wq Wk : Wt) (Y : Fin 16 → Feat) (X : Fin 1024 → Feat) : Fin 16 → Fin 1024 → ℝ :=
  soft fun r n => logit ε Wq Wk (Y r) (X n)

/-! ## Facts about them -/

theorem var_nonneg (x : Feat) : 0 ≤ var x :=
  div_nonneg (sum_nonneg fun _ _ => mul_self_nonneg _) (by norm_num)

/-- The variance is the mean of the squares less the square of the mean. -/
theorem var_eq (x : Feat) : var x = (∑ d, x d * x d) * (1 / 96) - mean x * mean x := by
  have h : ∑ d, x d = 96 * mean x := by unfold mean; ring
  have e : ∀ d, (x d - mean x) * (x d - mean x) = x d * x d - 2 * mean x * x d + mean x * mean x := fun d => by ring
  unfold var
  simp only [e, sum_add_distrib, sum_sub_distrib, ← mul_sum, h, sum_const, card_univ, Fintype.card_fin, nsmul_eq_mul]
  push_cast
  ring

theorem sum_exp_pos (f : Fin 16 → ℝ) : 0 < ∑ t, Real.exp (f t) :=
  sum_pos (fun _ _ => Real.exp_pos _) univ_nonempty

theorem soft_pos (L : Fin 16 → Fin 1024 → ℝ) (r : Fin 16) (n : Fin 1024) : 0 < soft L r n :=
  div_pos (Real.exp_pos _) (sum_exp_pos _)

/-- The softmax does not change when a number is subtracted from every logit of a position. -/
theorem soft_shift (L : Fin 16 → Fin 1024 → ℝ) (M : Fin 1024 → ℝ) (r : Fin 16) (n : Fin 1024) :
    Real.exp (L r n - M n) / ∑ t, Real.exp (L t n - M n) = soft L r n := by
  unfold soft
  simp only [Real.exp_sub, ← sum_div]
  exact div_div_div_cancel_right₀ (Real.exp_ne_zero _) _ _

theorem rowsum_pos {A : Fin 16 → Fin 1024 → ℝ} (h : ∀ r n, 0 < A r n) (r : Fin 16) : 0 < ∑ n, A r n :=
  sum_pos (fun _ _ => h _ _) univ_nonempty

theorem co_pos {A : Fin 16 → Fin 1024 → ℝ} (h : ∀ r n, 0 < A r n) (r t : Fin 16) : 0 < co A r t :=
  sum_pos (fun _ _ => mul_pos (h _ _) (h _ _)) univ_nonempty

theorem cosum_pos {A : Fin 16 → Fin 1024 → ℝ} (h : ∀ r n, 0 < A r n) (r : Fin 16) : 0 < ∑ t, co A r t :=
  sum_pos (fun _ _ => co_pos h _ _) univ_nonempty

/-! ## The kernel's formulas -/

/-- The mean of an input as the kernel forms it. -/
def kMu (x : Feat) : ℝ := (∑ d, 1 * x d) * (1 / 96)

/-- The reciprocal standard deviation of an input as the kernel forms it. -/
def kIss (ε : ℝ) (x : Feat) : ℝ := (Real.sqrt ((∑ d, 1 * (x d * x d)) * (1 / 96) - kMu x * kMu x + ε))⁻¹

/-- A slot's query pushed through the key weights. -/
def kQk (Wq Wk : Wt) (y : Feat) (d : Fin 96) : ℝ := ∑ e, proj y Wq e * Wk d e

/-- A slot's query against the column sums of the key weights. -/
def kQck (Wq Wk : Wt) (y : Feat) : ℝ := ∑ e, proj y Wq e * ∑ d, 1 * Wk d e

/-- The kernel's logit of a slot with layer norm `y` for an input `x`. -/
def kArg (ε : ℝ) (Wq Wk : Wt) (y x : Feat) : ℝ :=
  kIss ε x * (Real.sqrt 96)⁻¹ * (∑ d, kQk Wq Wk y d * x d)
    - kMu x * (kIss ε x * (Real.sqrt 96)⁻¹) * kQck Wq Wk y

/-- The kernel's update of slot `r`, the layer norm of the inputs folded into the sums. -/
def kUpd (ε δ : ℝ) (A W : Fin 16 → Fin 1024 → ℝ) (X : Fin 1024 → Feat) (Wv : Wt) (r : Fin 16) (d : Fin 96) : ℝ :=
  (∑ e, (∑ n, W r n * X n e) * (1 / ((∑ n, A r n * 1) + δ)) * Wv e d)
    - (∑ n, A r n * (kIss ε (X n) * kMu (X n))) * (1 / ((∑ n, A r n * 1) + δ)) * ∑ e, 1 * Wv e d

/-- The kernel's adjacency, the row sum over the batch element's own slots. -/
def kAdj (δ : ℝ) (A : Fin 16 → Fin 1024 → ℝ) (r t : Fin 16) : ℝ := co A r t * (1 / ((∑ t', co A r t' * 1) + δ))

/-! ## The equations -/

theorem kMu_eq (x : Feat) : kMu x = mean x := by
  unfold kMu mean; simp only [one_mul]; ring

theorem kIss_eq (ε : ℝ) (x : Feat) : kIss ε x = (Real.sqrt (var x + ε))⁻¹ := by
  unfold kIss; rw [kMu_eq, var_eq]; simp only [one_mul]

/-- A layer-normed vector's product with a weight column, the mean and the scale taken out of the sum. -/
theorem sum_nrm_mul (ε : ℝ) (x : Feat) (w : Feat) :
    ∑ e, nrm ε x e * w e = kIss ε x * (∑ e, w e * x e) - kMu x * kIss ε x * ∑ e, w e := by
  rw [kIss_eq, kMu_eq, mul_sum, mul_sum, ← sum_sub_distrib]
  refine sum_congr rfl fun e _ => ?_
  unfold nrm; ring

/-- The kernel's logit is the reference's. -/
theorem kArg_eq (ε : ℝ) (Wq Wk : Wt) (y x : Feat) : kArg ε Wq Wk y x = logit ε Wq Wk y x := by
  have h1 : ∑ d, proj y Wq d * proj (nrm ε x) Wk d = ∑ e, nrm ε x e * kQk Wq Wk y e := by
    unfold kQk
    conv_lhs => enter [2, d]; rw [proj.eq_def (nrm ε x), mul_sum]
    rw [sum_comm]
    refine sum_congr rfl fun e _ => ?_
    rw [mul_sum]
    exact sum_congr rfl fun d _ => by ring
  have h2 : ∑ e, kQk Wq Wk y e = kQck Wq Wk y := by
    unfold kQk kQck
    rw [sum_comm]
    refine sum_congr rfl fun e _ => ?_
    rw [mul_sum]
    simp only [one_mul]
  unfold kArg logit
  rw [h1, sum_nrm_mul, h2]
  ring

/-- The kernel's exponentials, normalised, are the reference's softmax. -/
theorem soft_kArg (ε : ℝ) (Wq Wk : Wt) (Y : Fin 16 → Feat) (X : Fin 1024 → Feat) (r : Fin 16) (n : Fin 1024) :
    Real.exp (kArg ε Wq Wk (Y r) (X n)) * (1 / ∑ t, Real.exp (kArg ε Wq Wk (Y t) (X n)))
      = attn ε Wq Wk Y X r n := by
  unfold attn soft
  simp only [kArg_eq]
  ring

/-- The kernel's update is the reference's. -/
theorem kUpd_eq (ε δ : ℝ) (A W : Fin 16 → Fin 1024 → ℝ) (X : Fin 1024 → Feat) (Wv : Wt)
    (hW : ∀ r n, W r n = A r n * kIss ε (X n)) (r : Fin 16) (d : Fin 96) :
    kUpd ε δ A W X Wv r d = upd δ A (fun n => proj (nrm ε (X n)) Wv) r d := by
  unfold kUpd upd proj
  simp only [hW, mul_one, one_mul]
  set c : ℝ := (∑ n, A r n) + δ with hc
  have e1 : ∀ n, A r n / c * ∑ e, nrm ε (X n) e * Wv e d
      = A r n * (1 / c) * (kIss ε (X n) * ∑ e, Wv e d * X n e)
        - A r n * (kIss ε (X n) * kMu (X n)) * (1 / c) * ∑ e, Wv e d := fun n => by
    rw [sum_nrm_mul]; ring
  simp only [e1, sum_sub_distrib, ← sum_mul]
  congr 1
  have e2 : ∀ e, (∑ n, A r n * kIss ε (X n) * X n e) * (1 / c) * Wv e d
      = ∑ n, A r n * (1 / c) * (kIss ε (X n) * (Wv e d * X n e)) := fun e => by
    rw [sum_mul, sum_mul]; exact sum_congr rfl fun n _ => by ring
  simp only [e2]
  rw [sum_comm]
  refine sum_congr rfl fun n _ => ?_
  rw [mul_sum, mul_sum]

/-- The kernel's adjacency is the reference's. -/
theorem kAdj_eq (δ : ℝ) (A : Fin 16 → Fin 1024 → ℝ) (r t : Fin 16) : kAdj δ A r t = adj δ A r t := by
  unfold kAdj adj; simp only [mul_one]; ring

end Cert.SlotMath

end
-- ==== Proof.Consts.lean ====
/- The programs' constants as real numbers, and extended-real arithmetic on real numbers. -/
module

public import proofs.«01_k».proof.KernelIdeal
public import Idealize.ShloMosaic.Lib.Pointwise
public import Idealize.ShloMosaic.Lib.IdealHost
public import Mathlib.Tactic.Ring
public import Mathlib.Tactic.NormNum
public import Mathlib.Tactic.Positivity

@[expose] public section

noncomputable section

namespace Cert.SlotMath

open Idealize.ShloMosaic

/-- The layer norm's `1e-5`, as its 32-bit pattern denotes it. -/
def eps : ℝ := 10995116 * 2 ^ (-40 : ℤ)

/-- The normalisations' `1e-8`, as its 32-bit pattern denotes it. -/
def del : ℝ := 11258999 * 2 ^ (-50 : ℤ)

theorem eps_pos : 0 < eps := by unfold eps; positivity

theorem del_pos : 0 < del := by unfold del; positivity

theorem ofBits_eps : Ideal.ofBits .f32 0x3727C5AC#32 = ((eps : ℝ) : EReal) := by
  simp [Ideal.ofBits, Ideal.ieee, eps, -EReal.coe_mul]

theorem ofBits_del : Ideal.ofBits .f32 0x322BCC77#32 = ((del : ℝ) : EReal) := by
  simp [Ideal.ofBits, Ideal.ieee, del, -EReal.coe_mul]

theorem ofBits_96 : Ideal.ofBits .f32 0x42C00000#32 = ((96 : ℝ) : EReal) := by
  simp [Ideal.ofBits, Ideal.ieee, -EReal.coe_mul]; norm_num

theorem ofBits_0 : Ideal.ofBits .f32 0x00000000#32 = ((0 : ℝ) : EReal) := by
  rw [Ideal.ofBits_zero_f32]; rfl

theorem ofBits_1 : Ideal.ofBits .f32 0x3F800000#32 = ((1 : ℝ) : EReal) := by
  rw [Ideal.ofBits_one_f32]; rfl

theorem ofBits_inf : Ideal.ofBits .f32 0x7F800000#32 = ⊤ := by simp [Ideal.ofBits, Ideal.ieee]

theorem ofBits_ninf : Ideal.ofBits .f32 0xFF800000#32 = ⊥ := by simp [Ideal.ofBits, Ideal.ieee]

/-- The named reciprocal of 96. -/
theorem named_inv_d : (Named.named (F := Ideal) Cert.KernelIdeal.κ "inv_d" 0x3C2AAAAB#32 : Ideal .f32) = ((1 / 96 : ℝ) : EReal) :=
  IdealRules.named_const.ideal_named_scalar Cert.KernelIdeal.κ "inv_d" (φ := .f32) 0x3C2AAAAB#32 ((1 / 96 : ℝ) : EReal) rfl

/-- The named reciprocal of the root of 96. -/
theorem named_inv_sqrt_d :
    (Named.named (F := Ideal) Cert.KernelIdeal.κ "inv_sqrt_d" 0x3DD105EC#32 : Ideal .f32) = (((Real.sqrt 96)⁻¹ : ℝ) : EReal) :=
  IdealRules.named_const.ideal_named_scalar Cert.KernelIdeal.κ "inv_sqrt_d" (φ := .f32) 0x3DD105EC#32 (((Real.sqrt 96)⁻¹ : ℝ) : EReal) rfl

/-- A sum of real numbers, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a t h ih => rw [Finset.sum_insert h, Finset.sum_insert h, ih, EReal.coe_add]

/-- A quotient of real numbers by one that is not zero. -/
theorem div_real {y : ℝ} (h : y ≠ 0) (x : ℝ) : Ideal.div (x : EReal) (y : EReal) = ((x / y : ℝ) : EReal) := by
  rw [Ideal.div_coe h, ← EReal.coe_mul, mul_one_div]

/-- The reciprocal root of a positive real number. -/
theorem rsqrt_real {y : ℝ} (h : 0 < y) : Ideal.rsqrt (y : EReal) = (((Real.sqrt y)⁻¹ : ℝ) : EReal) := by
  rw [Ideal.rsqrt_coe, if_neg h.not_gt, if_neg h.ne']

/-- The root of a real number that is not negative. -/
theorem sqrt_real {y : ℝ} (h : 0 ≤ y) : Ideal.sqrt (y : EReal) = ((Real.sqrt y : ℝ) : EReal) := by
  rw [Ideal.sqrt_coe, if_neg h.not_gt]

theorem max_real (x y : ℝ) : max (x : EReal) (y : EReal) = ((max x y : ℝ) : EReal) :=
  (EReal.coe_strictMono.monotone.map_max).symm

end Cert.SlotMath

end
-- ==== Proof.Slots.lean ====
/- The slots of one batch element as extended reals, which may be infinite: their layer norm, which is
   real all the same, the attention step and the graph step. -/
module

public import proofs.«01_k».proof.Proof.Real
public import proofs.«01_k».proof.Proof.Consts

@[expose] public section

noncomputable section

namespace Cert.SlotMath

open Idealize.ShloMosaic

/-- A vector of 96 extended reals. -/
abbrev EFeat := Fin 96 → EReal

/-- A 96 × 96 matrix of extended reals. -/
abbrev EWt := Fin 96 → Fin 96 → EReal

open Classical in
/-- The layer norm of a slot: of a real vector the layer norm, and of a vector with an infinite entry nothing. -/
def slotNrm (ε : ℝ) (s : EFeat) : Feat :=
  if ∀ d, s d = ((s d).toReal : EReal) then nrm ε fun d => (s d).toReal else fun _ => 0

/-- The slots after the attention step, from the slots `S` and their updates `U`. -/
def slotsSa (S : Fin 16 → EFeat) (U : Fin 16 → Feat) (Wu : EWt) (r : Fin 16) (d : Fin 96) : EReal :=
  S r d + ∑ e, (U r e : EReal) * Wu e d

/-- The graph step: the slots plus the rectified, projected aggregate of their neighbours. -/
def graph (δ : ℝ) (A : Fin 16 → Fin 1024 → ℝ) (Y : Fin 16 → EFeat) (Wg : EWt) (r : Fin 16) (d : Fin 96) : EReal :=
  Y r d + max (∑ e, (∑ t, (adj δ A r t : EReal) * Y t e) * Wg e d) 0

/-- The attention of one batch element, from its slots. -/
def slotAttn (ε : ℝ) (Wq Wk : Wt) (S : Fin 16 → EFeat) (X : Fin 1024 → Feat) : Fin 16 → Fin 1024 → ℝ :=
  attn ε Wq Wk (fun r => slotNrm ε (S r)) X

theorem slotAttn_pos (ε : ℝ) (Wq Wk : Wt) (S : Fin 16 → EFeat) (X : Fin 1024 → Feat) (r : Fin 16) (n : Fin 1024) :
    0 < slotAttn ε Wq Wk S X r n :=
  soft_pos (fun r n => logit ε Wq Wk (slotNrm ε (S r)) (X n)) r n

/-- The new slots of one batch element. -/
def out (ε δ : ℝ) (Wq Wk Wv : Wt) (Wu Wg : EWt) (S : Fin 16 → EFeat) (X : Fin 1024 → Feat) : Fin 16 → Fin 96 → EReal :=
  graph δ (slotAttn ε Wq Wk S X)
    (slotsSa S (upd δ (slotAttn ε Wq Wk S X) fun n => proj (nrm ε (X n)) Wv) Wu) Wg

/-! ## The layer norm of a slot -/

/-- A sum with an infinite term is infinite. -/
theorem sum_inf {ι : Type*} (t : Finset ι) (f : ι → EReal) (h : ∃ i ∈ t, f i = ⊤ ∨ f i = ⊥) : ∑ i ∈ t, f i = ⊤ ∨ ∑ i ∈ t, f i = ⊥ := by
  classical
  induction t using Finset.induction_on with
  | empty => simp at h
  | insert a t ha ih =>
    rw [Finset.sum_insert ha]
    have add_inf : ∀ x y : EReal, (x = ⊤ ∨ x = ⊥) ∨ (y = ⊤ ∨ y = ⊥) → x + y = ⊤ ∨ x + y = ⊥ := by
      intro x y
      induction x <;> induction y <;> simp
    obtain ⟨i, hi, hf⟩ := h
    rcases Finset.mem_insert.mp hi with rfl | hi
    · exact add_inf _ _ (.inl hf)
    · exact add_inf _ _ (.inr (ih ⟨i, hi, hf⟩))

/-- A sum of infinities above is infinity. -/
theorem sum_top : ∑ _d : Fin 96, (⊤ : EReal) = ⊤ := by
  rw [Fin.sum_univ_succ]
  exact EReal.top_add_of_ne_bot (ne_of_gt (lt_of_lt_of_le EReal.bot_lt_zero (Finset.sum_nonneg fun _ _ => le_top)))

/-- Dividing an infinity by 96 leaves it. -/
theorem div_96_top : Ideal.div ⊤ ((96 : ℝ) : EReal) = ⊤ := by
  rw [Ideal.div_coe (by norm_num)]; exact EReal.top_mul_coe_of_pos (by norm_num)

theorem div_96_bot : Ideal.div ⊥ ((96 : ℝ) : EReal) = ⊥ := by
  rw [Ideal.div_coe (by norm_num)]; exact EReal.bot_mul_coe_of_pos (by norm_num)

/-- The square of a difference from an infinity is infinity. -/
theorem sq_sub_inf {m : EReal} (h : m = ⊤ ∨ m = ⊥) (x : EReal) : (x - m) * (x - m) = ⊤ := by
  rcases h with rfl | rfl <;> induction x <;> simp

/-- The variance of a vector with an infinite entry, as either program forms it, is infinity. -/
theorem var_inf {s : EFeat} (h : ¬ ∀ d, s d = ((s d).toReal : EReal)) :
    Ideal.div (∑ d, (s d - Ideal.div (∑ e, s e) ((96 : ℝ) : EReal)) * (s d - Ideal.div (∑ e, s e) ((96 : ℝ) : EReal))) ((96 : ℝ) : EReal) = ⊤ := by
  obtain ⟨d, hd⟩ := not_forall.mp h
  have hi : s d = ⊤ ∨ s d = ⊥ := by
    by_contra hn
    obtain ⟨h1, h2⟩ := not_or.mp hn
    exact hd (EReal.coe_toReal h1 h2).symm
  have hm : Ideal.div (∑ e, s e) ((96 : ℝ) : EReal) = ⊤ ∨ Ideal.div (∑ e, s e) ((96 : ℝ) : EReal) = ⊥ := by
    rcases sum_inf Finset.univ s ⟨d, Finset.mem_univ d, hi⟩ with e | e <;> rw [e]
    · exact .inl div_96_top
    · exact .inr div_96_bot
  simp only [sq_sub_inf hm, sum_top, div_96_top]

/-- The mean and the variance of a real vector, as either program forms them. -/
theorem mean_coe (x : Feat) : Ideal.div (∑ e, ((x e : ℝ) : EReal)) ((96 : ℝ) : EReal) = ((mean x : ℝ) : EReal) := by
  rw [coe_sum, div_real (by norm_num)]; rfl

theorem var_coe (x : Feat) :
    Ideal.div (∑ d, (((x d : ℝ) : EReal) - ((mean x : ℝ) : EReal)) * (((x d : ℝ) : EReal) - ((mean x : ℝ) : EReal))) ((96 : ℝ) : EReal) = ((var x : ℝ) : EReal) := by
  simp only [← EReal.coe_sub, ← EReal.coe_mul, coe_sum, div_real (y := 96) (by norm_num), var]

/-- The kernel's layer norm of a slot: the difference times the reciprocal root. -/
theorem slotNrm_mul (s : EFeat) (d : Fin 96) :
    (s d - Ideal.div (∑ e, s e) ((96 : ℝ) : EReal))
      * Ideal.rsqrt (Ideal.div (∑ d, (s d - Ideal.div (∑ e, s e) ((96 : ℝ) : EReal)) * (s d - Ideal.div (∑ e, s e) ((96 : ℝ) : EReal)))
          ((96 : ℝ) : EReal) + ((eps : ℝ) : EReal)) = ((slotNrm eps s d : ℝ) : EReal) := by
  unfold slotNrm
  split
  case isTrue h =>
    obtain ⟨x, rfl⟩ : ∃ x : Feat, s = fun d => ((x d : ℝ) : EReal) := ⟨_, funext h⟩
    have hp := add_pos_of_nonneg_of_pos (var_nonneg x) eps_pos
    have hm := mean_coe x
    have hv := var_coe x
    simp only [hm, hv]
    simp only [← EReal.coe_add, rsqrt_real hp, ← EReal.coe_sub, ← EReal.coe_mul, EReal.toReal_coe, nrm, div_eq_mul_inv]
  case isFalse h =>
    rw [var_inf h, EReal.top_add_coe, Ideal.rsqrt_top, mul_zero, EReal.coe_zero]

/-- The reference's layer norm of a slot: the difference divided by the root. -/
theorem slotNrm_div (s : EFeat) (d : Fin 96) :
    Ideal.div (s d - Ideal.div (∑ e, s e) ((96 : ℝ) : EReal))
      (Ideal.sqrt (Ideal.div (∑ d, (s d - Ideal.div (∑ e, s e) ((96 : ℝ) : EReal)) * (s d - Ideal.div (∑ e, s e) ((96 : ℝ) : EReal)))
          ((96 : ℝ) : EReal) + ((eps : ℝ) : EReal))) = ((slotNrm eps s d : ℝ) : EReal) := by
  unfold slotNrm
  split
  case isTrue h =>
    obtain ⟨x, rfl⟩ : ∃ x : Feat, s = fun d => ((x d : ℝ) : EReal) := ⟨_, funext h⟩
    have hp := add_pos_of_nonneg_of_pos (var_nonneg x) eps_pos
    have hm := mean_coe x
    have hv := var_coe x
    simp only [hm, hv]
    simp only [← EReal.coe_add, sqrt_real hp.le, ← EReal.coe_sub, div_real (Real.sqrt_pos.mpr hp).ne', EReal.toReal_coe, nrm]
  case isFalse h =>
    rw [var_inf h, EReal.top_add_coe, Ideal.sqrt_top, Ideal.div, if_neg EReal.top_ne_zero, EReal.inv_top, mul_zero, EReal.coe_zero]

end Cert.SlotMath

end
-- ==== Proof.Block.lean ====
/- What one batch element of the kernel's block computes, as real numbers: if the blocks of the
   inputs and of the query, key and value weights hold real numbers, each value of `Terms` is the real number named
   here, ending in the attention. -/
module

public import proofs.«01_k».proof.Proof.Terms
public import proofs.«01_k».proof.Proof.Slots

@[expose] public section

set_option maxRecDepth 16384

noncomputable section

namespace Cert.KernelIdeal.Terms

open Idealize.ShloMosaic Idealize.SL.Sem Cert.KernelIdeal Cert.KernelIdeal.Gen Cert.SlotMath

/-- What the seven blocks of a grid point hold: real inputs and query, key and value weights, and any slots, update and
    graph weights. -/
structure Reads (x0 : Vec Ideal S16x16x96 .f32) (x1 : Vec Ideal S16x1024x96 .f32) (x2 x3 x4 x5 x6 : Vec Ideal S96x96 .f32)
    (S : Fin 16 → Fin 16 → EFeat) (X : Fin 16 → Fin 1024 → Feat) (Wq Wk Wv : Wt) (Wu Wg : EWt) : Prop where
  h0 : ∀ i r d, x0 (ix3 i r d) = S i r d
  h1 : ∀ i n d, x1 (ix3 i n d) = ((X i n d : ℝ) : EReal)
  h2 : ∀ d e, x2 (ix2 d e) = ((Wq d e : ℝ) : EReal)
  h3 : ∀ d e, x3 (ix2 d e) = ((Wk d e : ℝ) : EReal)
  h4 : ∀ d e, x4 (ix2 d e) = ((Wv d e : ℝ) : EReal)
  h5 : ∀ d e, x5 (ix2 d e) = Wu d e
  h6 : ∀ d e, x6 (ix2 d e) = Wg d e

variable {x0 : Vec Ideal S16x16x96 .f32} {x1 : Vec Ideal S16x1024x96 .f32} {x2 x3 x4 x5 x6 : Vec Ideal S96x96 .f32}
  {S : Fin 16 → Fin 16 → EFeat} {Xr : Fin 16 → Fin 1024 → Feat} {Wq Wk Wv : Wt} {Wu Wg : EWt}

/-- The query of slot `r` of batch element `i`. -/
theorem q_at (h : Reads x0 x1 x2 x3 x4 x5 x6 S Xr Wq Wk Wv Wu Wg) (i r : Fin 16) (d : Fin 96) :
    k0_pay5 (View.ld x2 r0_0) (View.ld x0 r0_1) (ix2 (⟨16 * i.val + r.val, by omega⟩ : Fin 256) d)
      = ((proj (slotNrm eps (S i r)) Wq d : ℝ) : EReal) := by
  pointwise [k0_pay5]
  simp only [h.h0, h.h2, ofBits_96, ofBits_eps, slotNrm_mul (S i r), ← EReal.coe_mul, coe_sum, proj]

/-- The query through the key weights. -/
theorem qk_at (h : Reads x0 x1 x2 x3 x4 x5 x6 S Xr Wq Wk Wv Wu Wg) (i r : Fin 16) (d : Fin 96) :
    QK x0 x2 x3 (ix2 (⟨16 * i.val + r.val, by omega⟩ : Fin 256) d) = ((kQk Wq Wk (slotNrm eps (S i r)) d : ℝ) : EReal) := by
  unfold QK
  pointwise [k0_pay6]
  simp only [q_at h, h.h3, ← EReal.coe_mul, coe_sum, kQk]

/-- The query against the key weights' column sums. -/
theorem qck_at (h : Reads x0 x1 x2 x3 x4 x5 x6 S Xr Wq Wk Wv Wu Wg) (i r : Fin 16) :
    QCK x0 x2 x3 (ix2 (⟨16 * i.val + r.val, by omega⟩ : Fin 256) 0) = ((kQck Wq Wk (slotNrm eps (S i r)) : ℝ) : EReal) := by
  unfold QCK
  pointwise [k0_pay7, k0_pay2]
  simp only [q_at h, h.h3, ← EReal.coe_mul, coe_sum, kQck, one_mul]

theorem x_at (h : Reads x0 x1 x2 x3 x4 x5 x6 S Xr Wq Wk Wv Wu Wg) (i : Fin 16) (n : Fin 1024) (d : Fin 96) :
    X x1 i (ix3 0 n d) = ((Xr i n d : ℝ) : EReal) := by
  pointwise [X]
  exact h.h1 i n d

/-- The raw logit of slot `r` at position `n`. -/
theorem raw_at (h : Reads x0 x1 x2 x3 x4 x5 x6 S Xr Wq Wk Wv Wu Wg) (i r : Fin 16) (n : Fin 1024) :
    RAW x0 x1 x2 x3 i (ix2 (⟨r.val, by omega⟩ : Fin 24) n) = ((∑ d, kQk Wq Wk (slotNrm eps (S i r)) d * Xr i n d : ℝ) : EReal) := by
  unfold RAW
  pointwise [raw, k0_pay2]
  simp only [r.isLt, dite_true, qk_at h, x_at h, ← EReal.coe_mul, coe_sum]

/-- The sum of an input's features. -/
theorem raw_ones_at (h : Reads x0 x1 x2 x3 x4 x5 x6 S Xr Wq Wk Wv Wu Wg) (i : Fin 16) (n : Fin 1024) :
    RAW x0 x1 x2 x3 i (ix2 16 n) = ((∑ d, Xr i n d : ℝ) : EReal) := by
  unfold RAW
  pointwise [raw, k0_pay2]
  simp only [x_at h, one_mul, coe_sum]

/-- An input's mean. -/
theorem mu_at (h : Reads x0 x1 x2 x3 x4 x5 x6 S Xr Wq Wk Wv Wu Wg) (i : Fin 16) (n : Fin 1024) :
    MU x0 x1 x2 x3 i (ix2 0 n) = ((kMu (Xr i n) : ℝ) : EReal) := by
  unfold MU
  pointwise [k0_pay33]
  have e := raw_ones_at h i n
  simp only [named_inv_d, e, ← EReal.coe_mul, kMu, one_mul]

/-- An input's reciprocal standard deviation. -/
theorem iss_at (h : Reads x0 x1 x2 x3 x4 x5 x6 S Xr Wq Wk Wv Wu Wg) (i : Fin 16) (n : Fin 1024) :
    ISS x0 x1 x2 x3 i (ix2 0 n) = ((kIss eps (Xr i n) : ℝ) : EReal) := by
  have e := raw_ones_at h i n
  have hp := rsqrt_real (add_pos_of_nonneg_of_pos (var_nonneg (Xr i n)) eps_pos)
  rw [← kIss_eq, var_eq, ← kMu_eq] at hp
  simp only [kMu, one_mul] at hp
  unfold ISS
  pointwise [k0_pay34, k0_pay33, k0_pay9, k0_pay3, k0_pay2, k0_pay8]
  simp only [named_inv_d, ofBits_eps, e, x_at h, ← EReal.coe_mul, coe_sum, ← EReal.coe_add, ← EReal.coe_sub, one_mul, hp]

/-- The exponential of slot `r`'s logit at position `n`. -/
theorem ex_at (h : Reads x0 x1 x2 x3 x4 x5 x6 S Xr Wq Wk Wv Wu Wg) (i r : Fin 16) (n : Fin 1024) :
    EX x0 x1 x2 x3 i (ix2 r n) = ((Real.exp (kArg eps Wq Wk (slotNrm eps (S i r)) (Xr i n)) : ℝ) : EReal) := by
  unfold EX
  pointwise [ex]
  simp only [named_inv_sqrt_d, iss_at h, mu_at h, raw_at h, qck_at h, ← EReal.coe_mul, ← EReal.coe_sub, Ideal.exp_coe, kArg]

/-- The exponentials' sum over the slots. -/
theorem exSum_at (h : Reads x0 x1 x2 x3 x4 x5 x6 S Xr Wq Wk Wv Wu Wg) (i : Fin 16) (n : Fin 1024) :
    exSum (EX x0 x1 x2 x3 i) (ix2 0 n) = ((∑ t, Real.exp (kArg eps Wq Wk (slotNrm eps (S i t)) (Xr i n)) : ℝ) : EReal) := by
  pointwise [exSum]
  simp only [ex_at h, coe_sum]

/-- The attention of slot `r` at position `n`. -/
theorem att_at (h : Reads x0 x1 x2 x3 x4 x5 x6 S Xr Wq Wk Wv Wu Wg) (i r : Fin 16) (n : Fin 1024) :
    ATT x0 x1 x2 x3 i (ix2 r n) = ((slotAttn eps Wq Wk (S i) (Xr i) r n : ℝ) : EReal) := by
  unfold ATT
  pointwise [k0_pay38, k0_pay37]
  have hp := (sum_exp_pos fun t => kArg eps Wq Wk (slotNrm eps (S i t)) (Xr i n)).ne'
  rw [ex_at h, exSum_at h, Ideal.div_coe hp, one_mul, ← EReal.coe_mul, soft_kArg eps Wq Wk (fun t => slotNrm eps (S i t))]
  rfl

/-- The attention times the input's reciprocal standard deviation. -/
theorem ws_at (h : Reads x0 x1 x2 x3 x4 x5 x6 S Xr Wq Wk Wv Wu Wg) (i r : Fin 16) (n : Fin 1024) :
    WS x0 x1 x2 x3 i (ix2 r n) = ((slotAttn eps Wq Wk (S i) (Xr i) r n * kIss eps (Xr i n) : ℝ) : EReal) := by
  unfold WS
  pointwise [k0_pay39, k0_pay37]
  have hp := (sum_exp_pos fun t => kArg eps Wq Wk (slotNrm eps (S i t)) (Xr i n)).ne'
  rw [ex_at h, exSum_at h, iss_at h, Ideal.div_coe hp, one_mul, ← EReal.coe_mul, ← EReal.coe_mul, slotAttn,
    ← soft_kArg, mul_assoc]

/-- An input's mean times its reciprocal standard deviation. -/
theorem zz_at (h : Reads x0 x1 x2 x3 x4 x5 x6 S Xr Wq Wk Wv Wu Wg) (i : Fin 16) (n : Fin 1024) :
    ZZ x0 x1 x2 x3 i (ix2 0 n) = ((kIss eps (Xr i n) * kMu (Xr i n) : ℝ) : EReal) := by
  unfold ZZ
  pointwise [k0_pay40]
  rw [iss_at h, mu_at h, ← EReal.coe_mul]

/-- What batch element `i` stores to the attention block. -/
theorem sta_at (h : Reads x0 x1 x2 x3 x4 x5 x6 S Xr Wq Wk Wv Wu Wg) (i r : Fin 16) (n : Fin 1024) :
    STA x0 x1 x2 x3 i (ix3 0 r n) = ((slotAttn eps Wq Wk (S i) (Xr i) r n : ℝ) : EReal) := by
  unfold STA
  pointwise []
  exact att_at h i r n

end Cert.KernelIdeal.Terms

end
-- ==== Proof.Group.lean ====
/- What a group of eight batch elements of the kernel's block computes, as real numbers, ending in the
   new slots. -/
module

public import proofs.«01_k».proof.Proof.Block
public import Idealize.ShloMosaic.Lib.Pipeline.ValueKit

@[expose] public section

set_option maxRecDepth 16384

noncomputable section

namespace Cert.KernelIdeal.Terms

open Idealize.ShloMosaic Idealize.SL.Sem Cert.KernelIdeal Cert.KernelIdeal.Gen Cert.SlotMath

/-! ## The mask -/

/-- The printed floor division of a row number by 16 is the row's batch element. -/
theorem floor16 : ∀ a : Fin 128,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 a.val) 16#32) 0#32))
      (IntOp.subi (IntOp.divsi ArithUnit.vector (BitVec.ofNat 32 a.val) 16#32) 1#32)
      (IntOp.divsi ArithUnit.vector (BitVec.ofNat 32 a.val) 16#32) = BitVec.ofNat 32 (a.val / 16) := by
  decide +kernel

/-- Choosing by the equality of two batch elements. -/
theorem select_eq {α : Type} (a b : Fin 8) (x y : α) :
    Scalar.select (IntOp.cmpi CmpIPredicate.eq (BitVec.ofNat 32 a.val) (BitVec.ofNat 32 b.val)) x y = if a = b then x else y := by
  have h : ∀ a b : Fin 8, IntOp.cmpi CmpIPredicate.eq (BitVec.ofNat 32 a.val) (BitVec.ofNat 32 b.val) = if a = b then 1#1 else 0#1 := by
    decide +kernel
  rw [h]
  split <;> rfl

/-- The row of slot `r` of a group's batch element `k`. -/
abbrev row (k : Fin 8) (r : Fin 16) : Fin 128 := ⟨16 * k.val + r.val, by omega⟩

theorem row_div (k : Fin 8) (r : Fin 16) : (16 * k.val + r.val) / 16 = k.val := by omega

/-- A sum over a group's rows, batch element by batch element. -/
theorem sum_row {M : Type*} [AddCommMonoid M] (f : Fin 128 → M) : ∑ x, f x = ∑ k : Fin 8, ∑ r : Fin 16, f (row k r) := by
  rw [← Finset.sum_product', Finset.univ_product_univ]
  refine (Fintype.sum_equiv (finProdFinEquiv (m := 8) (n := 16)) _ _ fun p => ?_).symm
  congr 1
  apply Fin.ext
  show 16 * p.1.val + p.2.val = p.2.val + 16 * p.1.val
  omega

/-- A masked sum over a group's rows is the sum over one batch element's slots. -/
theorem sum_own {M : Type*} [AddCommMonoid M] (k : Fin 8) (f : Fin 8 → Fin 16 → M) :
    ∑ l : Fin 8, ∑ t : Fin 16, (if k = l then f l t else 0) = ∑ t : Fin 16, f k t := by
  rw [Finset.sum_eq_single k (fun l _ hl => Finset.sum_eq_zero fun t _ => if_neg (Ne.symm hl)) (fun hk => absurd (Finset.mem_univ k) hk)]
  exact Finset.sum_congr rfl fun t _ => if_pos rfl

/-! ## Stacking -/

theorem stackA_at (a : Fin 8 → FVec Ideal S16x1024 .f32) (k : Fin 8) (r : Fin 16) (n : Fin 1024) :
    stackA a (ix2 (row k r) n) = a k (ix2 r n) := by
  match k with
  | 0 | 1 | 2 | 3 | 4 | 5 | 6 | 7 => pointwise [stackA] <;> blk_point [] <;> omega

theorem stackZ_at (a : Fin 8 → FVec Ideal S1x1024 .f32) (k : Fin 8) (n : Fin 1024) :
    stackZ a (ix2 (⟨1 + k.val, by omega⟩ : Fin 16) n) = a k (ix2 0 n) := by
  match k with
  | 0 | 1 | 2 | 3 | 4 | 5 | 6 | 7 => pointwise [stackZ]

theorem stackZ_0 (a : Fin 8 → FVec Ideal S1x1024 .f32) (n : Fin 1024) : stackZ a (ix2 0 n) = 1 := by
  pointwise [stackZ]

theorem stackT_at (t : Fin 8 → FVec Ideal S16x96 .f32) (k : Fin 8) (r : Fin 16) (d : Fin 96) :
    stackT t (ix2 (row k r) d) = t k (ix2 r d) := by
  match k with
  | 0 | 1 | 2 | 3 | 4 | 5 | 6 | 7 => pointwise [stackT] <;> blk_point [] <;> omega

/-! ## Reading the group's terms -/

theorem am_at (z : FVec Ideal S128x16 .f32) (k : Fin 8) (r : Fin 16) :
    am z (ix2 (row k r) 0) = z (ix2 (row k r) ⟨1 + k.val, by omega⟩) := by
  pointwise [am, k0_pay107, k0_pay104, k0_pay105, k0_pay106]
  simp only [floor16 (row k r), row_div, select_eq, Finset.sum_ite_eq, Finset.mem_univ, if_true]

theorem adj_at (a : FVec Ideal S128x1024 .f32) (k l : Fin 8) (r t : Fin 16) :
    adjBd a (ix2 (row k r) (row l t)) = if k = l then
      (∑ n, a (ix2 (row k r) n) * a (ix2 (row l t) n)) *
        Ideal.div 1 ((∑ t', ∑ n, a (ix2 (row k r) n) * a (ix2 (row k t') n)) + Ideal.ofBits .f32 0x322BCC77#32) else 0 := by
  pointwise [adjBd, k0_pay108, k0_pay109, k0_pay110, k0_pay111]
  simp only [floor16 (row k r), floor16 (row l t), floor16, row_div, select_eq]
  simp only [sum_row, row_div, select_eq, sum_own]

end Cert.KernelIdeal.Terms

end
-- ==== Proof.GroupOut.lean ====
/- A group's results, real up to the updates: the sums of the attention, the updates, the slots after the
   attention step, the adjacency and the new slots. -/
module

public import proofs.«01_k».proof.Proof.Group

@[expose] public section

set_option maxRecDepth 16384

noncomputable section

namespace Cert.KernelIdeal.Terms

open Idealize.ShloMosaic Idealize.SL.Sem Cert.KernelIdeal Cert.KernelIdeal.Gen Cert.SlotMath

variable {x0 : Vec Ideal S16x16x96 .f32} {x1 : Vec Ideal S16x1024x96 .f32} {x2 x3 x4 x5 x6 : Vec Ideal S96x96 .f32}
  {S : Fin 16 → Fin 16 → EFeat} {Xr : Fin 16 → Fin 1024 → Feat} {Wq Wk Wv : Wt} {Wu Wg : EWt}

/-- A group's stacked attentions. -/
theorem astk_at (h : Reads x0 x1 x2 x3 x4 x5 x6 S Xr Wq Wk Wv Wu Wg) (g : Fin 2) (k : Fin 8) (r : Fin 16) (n : Fin 1024) :
    ASTK x0 x1 x2 x3 g (ix2 (row k r) n) = ((slotAttn eps Wq Wk (S (el g k)) (Xr (el g k)) r n : ℝ) : EReal) := by
  unfold ASTK
  rw [stackA_at, att_at h]

/-- The sum of a slot's attention over the positions. -/
theorem rs_at (h : Reads x0 x1 x2 x3 x4 x5 x6 S Xr Wq Wk Wv Wu Wg) (g : Fin 2) (k : Fin 8) (r : Fin 16) :
    rs (RES x0 x1 x2 x3 g) (ix2 (row k r) 0) = ((∑ n, slotAttn eps Wq Wk (S (el g k)) (Xr (el g k)) r n * 1 : ℝ) : EReal) := by
  unfold RES
  pointwise [rs, res]
  have e : ∀ n, ASTK x0 x1 x2 x3 g (ix2 (row k r) n) = _ := astk_at h g k r
  simp only [e, stackZ_0, mul_one, coe_sum]

/-- The sum of a slot's attention weighted by its own batch element's folded means. -/
theorem am_res_at (h : Reads x0 x1 x2 x3 x4 x5 x6 S Xr Wq Wk Wv Wu Wg) (g : Fin 2) (k : Fin 8) (r : Fin 16) :
    am (RES x0 x1 x2 x3 g) (ix2 (row k r) 0)
      = ((∑ n, slotAttn eps Wq Wk (S (el g k)) (Xr (el g k)) r n * (kIss eps (Xr (el g k) n) * kMu (Xr (el g k) n)) : ℝ) : EReal) := by
  rw [am_at]
  unfold RES
  pointwise [res]
  have e : ∀ n, ASTK x0 x1 x2 x3 g (ix2 (row k r) n) = _ := astk_at h g k r
  simp only [e, stackZ_at, zz_at h, ← EReal.coe_mul, coe_sum]

/-- A slot's attention-weighted sum of inputs. -/
theorem tt_at (h : Reads x0 x1 x2 x3 x4 x5 x6 S Xr Wq Wk Wv Wu Wg) (i r : Fin 16) (d : Fin 96) :
    tt (WS x0 x1 x2 x3 i) (X x1 i) (ix2 r d)
      = ((∑ n, slotAttn eps Wq Wk (S i) (Xr i) r n * kIss eps (Xr i n) * Xr i n d : ℝ) : EReal) := by
  pointwise [tt, k0_pay8]
  simp only [ws_at h, x_at h, ← EReal.coe_mul, coe_sum]

/-- The slots after the attention step. -/
theorem sa_at (h : Reads x0 x1 x2 x3 x4 x5 x6 S Xr Wq Wk Wv Wu Wg) (g : Fin 2) (k : Fin 8) (r : Fin 16) (d : Fin 96) :
    SA x0 x1 x2 x3 x4 x5 g (ix2 (row k r) d)
      = slotsSa (S (el g k)) (upd del (slotAttn eps Wq Wk (S (el g k)) (Xr (el g k))) fun n => proj (nrm eps (Xr (el g k) n)) Wv) Wu r d := by
  have hd : (∑ n, slotAttn eps Wq Wk (S (el g k)) (Xr (el g k)) r n * 1) + del ≠ 0 := by
    simp only [mul_one]
    exact (add_pos (rowsum_pos (slotAttn_pos eps Wq Wk (S (el g k)) (Xr (el g k))) r) del_pos).ne'
  have e1 : ∀ j, updG (View.ld x4 r0_0) (k0_pay4 (View.ld x4 r0_0)) (stackT fun k => tt (WS x0 x1 x2 x3 (el g k)) (X x1 (el g k)))
      (rs (RES x0 x1 x2 x3 g)) (am (RES x0 x1 x2 x3 g)) (ix2 (row k r) j)
      = ((upd del (slotAttn eps Wq Wk (S (el g k)) (Xr (el g k))) (fun n => proj (nrm eps (Xr (el g k) n)) Wv) r j : ℝ) : EReal) := fun j => by
    pointwise [updG, k0_pay4, k0_pay2]
    have e2 := rs_at h g k r
    have e3 := am_res_at h g k r
    have e4 : ∀ d, stackT (fun k => tt (WS x0 x1 x2 x3 (el g k)) (X x1 (el g k))) (ix2 (row k r) d) = _ := fun d => (stackT_at _ k r d).trans (tt_at h (el g k) r d)
    simp only [e2, e3, e4, h.h4, ofBits_del, ← EReal.coe_add, Ideal.div_coe hd, one_mul, ← EReal.coe_mul, coe_sum, ← EReal.coe_sub]
    rw [← kUpd_eq eps del _ (fun r n => slotAttn eps Wq Wk (S (el g k)) (Xr (el g k)) r n * kIss eps (Xr (el g k) n)) _ _ (fun _ _ => rfl)]
    simp only [kUpd, one_mul]
  unfold SA
  pointwise [saG]
  have e5 : 8 * g.val + (16 * k.val + r.val) / 16 = 8 * g.val + k.val := by omega
  have e6 : (16 * k.val + r.val) % 16 = r.val := by omega
  simp only [e1, h.h0, h.h5, slotsSa, e5, e6]

/-- The adjacency between two slots of a group. -/
theorem adjBd_at (h : Reads x0 x1 x2 x3 x4 x5 x6 S Xr Wq Wk Wv Wu Wg) (g : Fin 2) (k l : Fin 8) (r t : Fin 16) :
    adjBd (ASTK x0 x1 x2 x3 g) (ix2 (row k r) (row l t))
      = if k = l then ((adj del (slotAttn eps Wq Wk (S (el g k)) (Xr (el g k))) r t : ℝ) : EReal) else 0 := by
  rw [adj_at]
  split
  case isFalse => rfl
  case isTrue hk =>
    subst hk
    have hd : (∑ t, co (slotAttn eps Wq Wk (S (el g k)) (Xr (el g k))) r t * 1) + del ≠ 0 := by
      simp only [mul_one]
      exact (add_pos (cosum_pos (slotAttn_pos eps Wq Wk (S (el g k)) (Xr (el g k))) r) del_pos).ne'
    simp only [astk_at h, ofBits_del, ← EReal.coe_mul, coe_sum, ← EReal.coe_add]
    rw [← kAdj_eq]
    simp only [co, mul_one] at hd
    simp only [kAdj, co, mul_one, Ideal.div_coe hd, one_mul, ← EReal.coe_mul]

/-- The new slots. -/
theorem out_at (h : Reads x0 x1 x2 x3 x4 x5 x6 S Xr Wq Wk Wv Wu Wg) (g : Fin 2) (k : Fin 8) (r : Fin 16) (d : Fin 96) :
    OUT x0 x1 x2 x3 x4 x5 x6 g (ix2 (row k r) d) = out eps del Wq Wk Wv Wu Wg (S (el g k)) (Xr (el g k)) r d := by
  unfold OUT
  pointwise [outG]
  have e1 : ∀ d, SA x0 x1 x2 x3 x4 x5 g (ix2 (row k r) d) = _ := sa_at h g k r
  have e2 : ∀ l t, adjBd (ASTK x0 x1 x2 x3 g) (ix2 (row k r) (row l t)) = _ := fun l t => adjBd_at h g k l r t
  simp only [sum_row, e1, e2, ite_mul, zero_mul, sum_own, sa_at h, h.h6, out, graph]

/-- What group `g` stores to the slots block. -/
theorem sto_at (h : Reads x0 x1 x2 x3 x4 x5 x6 S Xr Wq Wk Wv Wu Wg) (g : Fin 2) (k : Fin 8) (r : Fin 16) (d : Fin 96) :
    STO x0 x1 x2 x3 x4 x5 x6 g (ix3 k r d) = out eps del Wq Wk Wv Wu Wg (S (el g k)) (Xr (el g k)) r d := by
  unfold STO
  pointwise []
  have e : k.val * 16 + r.val = 16 * k.val + r.val := by omega
  simp only [e]
  exact out_at h g k r d

end Cert.KernelIdeal.Terms

end
-- ==== Proof.OutBlocks.lean ====
/- The kernel's two output blocks read at an index: the stores cover the blocks, each with its own
   batch elements' attention or new slots. -/
module

public import proofs.«01_k».proof.Proof.Bridge
public import proofs.«01_k».proof.Proof.GroupOut

@[expose] public section

set_option maxRecDepth 16384

noncomputable section

namespace Cert.KernelIdeal.Terms

open Idealize.ShloMosaic Idealize.SL.Sem Cert.KernelIdeal Cert.KernelIdeal.Gen Cert.SlotMath

variable {x0 : Vec Ideal S16x16x96 .f32} {x1 : Vec Ideal S16x1024x96 .f32} {x2 x3 x4 x5 x6 : Vec Ideal S96x96 .f32}
  {S : Fin 16 → Fin 16 → EFeat} {Xr : Fin 16 → Fin 1024 → Feat} {Wq Wk Wv : Wt} {Wu Wg : EWt}

/-- One store to the attention block, at the block index it lands on. -/
theorem sta_piece (hR : Reads x0 x1 x2 x3 x4 x5 x6 S Xr Wq Wk Wv Wu Wg) (e : Fin 16) (x : S1x16x1024.Idx) (i r : Fin 16) (n : Fin 1024)
    (h0 : i.val = e.val + (x 0).val) (hx : (x 0).val < 1) (h1 : r.val = (x 1).val) (h2 : n.val = (x 2).val) :
    STA x0 x1 x2 x3 e x = ((slotAttn eps Wq Wk (S i) (Xr i) r n : ℝ) : EReal) := by
  obtain rfl : i = e := Fin.ext (by omega)
  have hi : x = ix3 0 r n := by
    rw [eq_ix3 x]
    congr 1
    · exact Fin.ext (by show (x 0).val = 0; omega)
    · exact Fin.ext h1.symm
    · exact Fin.ext h2.symm
  rw [hi, sta_at hR]

/-- One store to the slots block, at the block index it lands on. -/
theorem sto_piece (hR : Reads x0 x1 x2 x3 x4 x5 x6 S Xr Wq Wk Wv Wu Wg) (g : Fin 2) (x : S8x16x96.Idx) (i r : Fin 16) (d : Fin 96)
    (h0 : i.val = 8 * g.val + (x 0).val) (hx : (x 0).val < 8) (h1 : r.val = (x 1).val) (h2 : d.val = (x 2).val) :
    STO x0 x1 x2 x3 x4 x5 x6 g x = out eps del Wq Wk Wv Wu Wg (S i) (Xr i) r d := by
  obtain ⟨k, hk⟩ : ∃ k : Fin 8, k.val = (x 0).val := ⟨⟨(x 0).val, hx⟩, rfl⟩
  obtain rfl : i = el g k := Fin.ext (by show i.val = 8 * g.val + k.val; omega)
  have hi : x = ix3 k r d := by
    rw [eq_ix3 x]
    congr 1
    · exact Fin.ext hk.symm
    · exact Fin.ext h1.symm
    · exact Fin.ext h2.symm
  rw [hi, sto_at hR]

/-- The attention block. -/
theorem out8_at (hR : Reads x0 x1 x2 x3 x4 x5 x6 S Xr Wq Wk Wv Wu Wg) (i r : Fin 16) (n : Fin 1024) :
    out0_8 x0 x1 x2 x3 x4 x5 x6 (ix3 i r n) = ((slotAttn eps Wq Wk (S i) (Xr i) r n : ℝ) : EReal) := by
  rw [out8_eq]
  canon_tiles x h
  all_goals first
    | exact sta_piece hR _ x i r n h0 x0_lt h1 h2
    | exact sta_piece hR 0 x i r n (h0.trans (Nat.zero_add _).symm) x0_lt h1 h2

/-- The slots block. -/
theorem out7_at (hR : Reads x0 x1 x2 x3 x4 x5 x6 S Xr Wq Wk Wv Wu Wg) (i r : Fin 16) (d : Fin 96) :
    out0_7 x0 x1 x2 x3 x4 x5 x6 (ix3 i r d) = out eps del Wq Wk Wv Wu Wg (S i) (Xr i) r d := by
  rw [out7_eq]
  canon_tiles x h
  · exact sto_piece hR 1 x i r d h0 x0_lt h1 h2
  · exact sto_piece hR 0 x i r d (h0.trans (Nat.zero_add _).symm) x0_lt h1 h2

end Cert.KernelIdeal.Terms

end
-- ==== Proof.Spec.lean ====
/- The two results as functions of the seven argument arrays: each entry is the number that the
   attention and the graph step of its batch element give. -/
module

public import proofs.«01_k».proof.KernelIdeal
public import proofs.«01_k».proof.Proof.Slots

@[expose] public section

noncomputable section

namespace Cert.SlotMath

open Idealize.ShloMosaic Cert.KernelIdeal

/-- The slots of batch element `b`. -/
def slots (a : FVec Ideal S64x16x96 .f32) (b : Fin 64) (r : Fin 16) : EFeat := fun d => a (ix3 b r d)

/-- The inputs of batch element `b`, the two image axes taken as one. -/
def inputs (a : FVec Ideal S64x32x32x96 .f32) (b : Fin 64) (n : Fin 1024) : Feat := fun d =>
  (a (ix4 b (⟨n.val / 32, by omega⟩ : Fin 32) (⟨n.val % 32, by omega⟩ : Fin 32) d)).toReal

/-- A matrix of real weights. -/
def weights (a : FVec Ideal S96x96 .f32) : Wt := fun d e => (a (ix2 d e)).toReal

/-- A matrix of weights that may be infinite. -/
def eweights (a : FVec Ideal S96x96 .f32) : EWt := fun d e => a (ix2 d e)

/-- The attention array. -/
def attention (a0 : FVec Ideal S64x16x96 .f32) (a1 : FVec Ideal S64x32x32x96 .f32) (a2 a3 : FVec Ideal S96x96 .f32) :
    FVec Ideal S64x16x1024 .f32 := fun j =>
  ((slotAttn eps (weights a2) (weights a3) (slots a0 (j 0)) (inputs a1 (j 0)) (j 1) (j 2) : ℝ) : EReal)

/-- The array of the new slots. -/
def newSlots (a0 : FVec Ideal S64x16x96 .f32) (a1 : FVec Ideal S64x32x32x96 .f32) (a2 a3 a4 a5 a6 : FVec Ideal S96x96 .f32) :
    FVec Ideal S64x16x96 .f32 := fun j =>
  out eps del (weights a2) (weights a3) (weights a4) (eweights a5) (eweights a6) (slots a0 (j 0)) (inputs a1 (j 0)) (j 1) (j 2)

/-- Every entry of an array is a real number. -/
def AllReal {s : Shape} (a : FVec Ideal s .f32) : Prop := ∀ j, a j = (((a j : EReal).toReal : ℝ) : EReal)

/-- Every entry of the inputs and of the query, key and value weights is a real number. -/
structure RealArgs (a1 : FVec Ideal S64x32x32x96 .f32) (a2 a3 a4 : FVec Ideal S96x96 .f32) : Prop where
  h1 : AllReal a1
  h2 : AllReal a2
  h3 : AllReal a3
  h4 : AllReal a4

end Cert.SlotMath

end
-- ==== Proof.Arrays.lean ====
/- What the kernel's two result arrays hold after the run, block by block. -/
module

public import proofs.«01_k».proof.Proof.OutBlocks
public import proofs.«01_k».proof.Proof.Spec
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Arrays

open Idealize.ShloMosaic Idealize.ShloMosaic.TcCoe Idealize.SL.Sem Cert.KernelIdeal Cert.KernelIdeal.Gen Cert.SlotMath Cert.KernelIdeal.Terms

variable (m : (ℓ : Loc nD τ sig) → Buf (Elt Ideal) ℓ) (c : Dev nD)

/-- The inputs and the query, key and value weights hold real numbers. -/
abbrev Args : Prop :=
  RealArgs (m ((c : Thread nD τ).loc main_arg1)) (m ((c : Thread nD τ).loc main_arg2)) (m ((c : Thread nD τ).loc main_arg3))
    (m ((c : Thread nD τ).loc main_arg4))

/-- Which blocks grid point `t` stages: the slots', inputs' and results' block `t`, and the weights whole. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] ∧ win0_8.index t = ![t.val, 0, 0] :=
  (by decide +kernel : ∀ t : Fin grid0.N, _)

/-- Batch element `i` of grid point `t`'s block, in the whole batch. -/
abbrev bat (t : Fin cfg0.N) (i : Fin 16) : Fin 64 := ⟨16 * t.val + i.val, by have : t.val < 4 := t.isLt; omega⟩

theorem slots_blk (t : Fin cfg0.N) (i r : Fin 16) (d : Fin 96) :
    (show Vec Ideal S16x16x96 .f32 from iblk m c 0 t) (ix3 i r d) = slots (m ((c : Thread nD τ).loc main_arg0)) (bat t i) r d := by
  unfold slots
  blk_point [iblk, V, idx t]

theorem inputs_blk (h : Args m c) (t : Fin cfg0.N) (i : Fin 16) (n : Fin 1024) (d : Fin 96) :
    (show Vec Ideal S16x1024x96 .f32 from iblk m c 1 t) (ix3 i n d) = ((inputs (m ((c : Thread nD τ).loc main_arg1)) (bat t i) n d : ℝ) : EReal) := by
  refine Eq.trans ?_ (h.h1 _)
  blk_simp [iblk, idx t]
  have e : (win0_1.blk t).view.emb (ix3 i n d) = ix3 (bat t i) n d := by
    blk_ext [idx t]
  rw [e]
  entry_read
  pointwise []

theorem w2_blk (h : Args m c) (t : Fin cfg0.N) (d e : Fin 96) :
    (show Vec Ideal S96x96 .f32 from iblk m c 2 t) (ix2 d e) = ((weights (m ((c : Thread nD τ).loc main_arg2)) d e : ℝ) : EReal) := by
  refine Eq.trans ?_ (h.h2 _)
  blk_point [iblk, V, idx t]

theorem w3_blk (h : Args m c) (t : Fin cfg0.N) (d e : Fin 96) :
    (show Vec Ideal S96x96 .f32 from iblk m c 3 t) (ix2 d e) = ((weights (m ((c : Thread nD τ).loc main_arg3)) d e : ℝ) : EReal) := by
  refine Eq.trans ?_ (h.h3 _)
  blk_point [iblk, V, idx t]

theorem w4_blk (h : Args m c) (t : Fin cfg0.N) (d e : Fin 96) :
    (show Vec Ideal S96x96 .f32 from iblk m c 4 t) (ix2 d e) = ((weights (m ((c : Thread nD τ).loc main_arg4)) d e : ℝ) : EReal) := by
  refine Eq.trans ?_ (h.h4 _)
  blk_point [iblk, V, idx t]

theorem w5_blk (t : Fin cfg0.N) (d e : Fin 96) :
    (show Vec Ideal S96x96 .f32 from iblk m c 5 t) (ix2 d e) = eweights (m ((c : Thread nD τ).loc main_arg5)) d e := by
  unfold eweights
  blk_point [iblk, V, idx t]

theorem w6_blk (t : Fin cfg0.N) (d e : Fin 96) :
    (show Vec Ideal S96x96 .f32 from iblk m c 6 t) (ix2 d e) = eweights (m ((c : Thread nD τ).loc main_arg6)) d e := by
  unfold eweights
  blk_point [iblk, V, idx t]

/-- Grid point `t`'s blocks hold its sixteen batch elements. -/
theorem reads (h : Args m c) (t : Fin cfg0.N) :
    Reads (iblk m c 0 t) (iblk m c 1 t) (iblk m c 2 t) (iblk m c 3 t) (iblk m c 4 t) (iblk m c 5 t) (iblk m c 6 t)
      (fun i => slots (m ((c : Thread nD τ).loc main_arg0)) (bat t i)) (fun i => inputs (m ((c : Thread nD τ).loc main_arg1)) (bat t i))
      (weights (m ((c : Thread nD τ).loc main_arg2))) (weights (m ((c : Thread nD τ).loc main_arg3))) (weights (m ((c : Thread nD τ).loc main_arg4)))
      (eweights (m ((c : Thread nD τ).loc main_arg5))) (eweights (m ((c : Thread nD τ).loc main_arg6))) :=
  ⟨slots_blk m c t, inputs_blk m c h t, w2_blk m c h t, w3_blk m c h t, w4_blk m c h t, w5_blk m c t, w6_blk m c t⟩

/-- The attention array after the run. -/
theorem final8 (h : Args m c) : (dats m 0 c).arrAt 8 cfg0.N
    = attention (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  obtain ⟨i, r, n, rfl⟩ : ∃ (i r : Fin 16) (n : Fin 1024), y = ix3 i r n := ⟨y 0, y 1, y 2, eq_ix3 y⟩
  refine (out8_at (reads m c h t) i r n).trans ?_
  have e : (win0_8.blk t).view.emb (ix3 i r n) = ix3 (bat t i) r n := by
    blk_ext [idx t]
  rw [e]
  rfl

/-- The array of the new slots after the run. -/
theorem final7 (h : Args m c) : (dats m 0 c).arrAt 7 cfg0.N
    = newSlots (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  obtain ⟨i, r, d, rfl⟩ : ∃ (i r : Fin 16) (d : Fin 96), y = ix3 i r d := ⟨y 0, y 1, y 2, eq_ix3 y⟩
  refine (out7_at (reads m c h t) i r d).trans ?_
  have e : (win0_7.blk t).view.emb (ix3 i r d) = ix3 (bat t i) r d := by
    blk_ext [idx t]
  rw [e]
  rfl

end Cert.KernelIdeal.Arrays

end
-- ==== Proof.Reference.lean ====
/- What the reference computes, stage by stage: real numbers up to the updates of the slots. -/
module

public import proofs.«01_k».proof.Proof.Spec
public import proofs.«01_k».proof.Proof.Gen.ReferenceIdeal.Read

@[expose] public section

set_option maxRecDepth 16384

noncomputable section

namespace Cert.ReferenceIdeal.Values

open Idealize.ShloMosaic Idealize.SL.Sem Cert.ReferenceIdeal Cert.ReferenceIdeal.Read Cert.SlotMath

/-- The correction of the variance's divisor is nothing. -/
theorem sitofp_0 : (FloatOps.sitofp .f32 0#32 : Ideal .f32) = ((0 : ℝ) : EReal) := by
  show (((0#32 : BitVec 32).toInt : ℝ) : EReal) = _
  norm_num

theorem pos_96 : (0 : EReal) < ((96 : ℝ) : EReal) := by
  rw [← EReal.coe_zero]; exact EReal.coe_lt_coe_iff.mpr (by norm_num)

/-- The greatest of real numbers, started from −∞, is a real number. -/
theorem fold_max_real {ι : Type*} (s : Finset ι) (hs : s.Nonempty) (f : ι → ℝ) :
    ∃ M : ℝ, Finset.fold max (⊥ : EReal) (fun i => ((f i : ℝ) : EReal)) s = (M : EReal) := by
  induction hs using Finset.Nonempty.cons_induction with
  | singleton a => exact ⟨f a, by rw [Finset.fold_singleton]; exact max_eq_left bot_le⟩
  | cons a t ha _ ih =>
    obtain ⟨M, hM⟩ := ih
    exact ⟨max (f a) M, by rw [Finset.fold_cons, hM, max_real]⟩

variable {x0 : FVec Ideal S64x16x96 .f32} {x1 : FVec Ideal S64x32x32x96 .f32} {x2 x3 x4 x5 x6 : FVec Ideal S96x96 .f32}

theorem x_real (h : RealArgs x1 x2 x3 x4) (b : Fin 64) (n : Fin 1024) (d : Fin 96) :
    x1 (ix4 b (⟨n.val / 32, by omega⟩ : Fin 32) (⟨n.val % 32, by omega⟩ : Fin 32) d) = ((inputs x1 b n d : ℝ) : EReal) := h.h1 _

theorem w2_real (h : RealArgs x1 x2 x3 x4) (d e : Fin 96) : x2 (ix2 d e) = ((weights x2 d e : ℝ) : EReal) := h.h2 _
theorem w3_real (h : RealArgs x1 x2 x3 x4) (d e : Fin 96) : x3 (ix2 d e) = ((weights x3 d e : ℝ) : EReal) := h.h3 _
theorem w4_real (h : RealArgs x1 x2 x3 x4) (d e : Fin 96) : x4 (ix2 d e) = ((weights x4 d e : ℝ) : EReal) := h.h4 _

/-- The variance of an input. -/
theorem xvar_at (h : RealArgs x1 x2 x3 x4) (b : Fin 64) (n : Fin 1024) :
    val_main_v5 (F := Ideal) x1 (ix3 b n 0) = ((var (inputs x1 b n) : ℝ) : EReal) := by
  pointwise [val_main_v5, val_main_call0_v0, val_main_call0_v1, val_main_call0_v2, val_main_call0_v3, val_main_call0_v4,
    val_main_call0_v5, val_main_call0_v6, val_main_call0_v7, val_main_call0_v8, val_main_call0_v9, val_main_call0_v10,
    val_main_call0_v11, val_main_call0_v12, val_main_call0_v13, val_main_call0_call0_v0, val_main_call0_call0_v1,
    val_main_call0_cst, val_main_call0_cst_0, val_main_call0_cst_1, val_main_call0_cst_2, val_main_call0_cst_3,
    val_main_call0_cst_4, val_main_c, val_main_v0]
  simp only [ofBits_96, sitofp_0, ← EReal.coe_sub, sub_zero, if_pos pos_96, x_real h, coe_sum, div_real (y := 96) (by norm_num),
    ← EReal.coe_mul, var, mean]

/-- The layer norm of an input. -/
theorem xin_at (h : RealArgs x1 x2 x3 x4) (b : Fin 64) (n : Fin 1024) (d : Fin 96) :
    val_main_v12 (F := Ideal) x1 (ix3 b n d) = ((nrm eps (inputs x1 b n) d : ℝ) : EReal) := by
  have hp := add_pos_of_nonneg_of_pos (var_nonneg (inputs x1 b n)) eps_pos
  have hv := xvar_at h b n
  generalize hg : val_main_v5 (F := Ideal) x1 = v at hv
  pointwise [val_main_v12, val_main_v7, val_main_v6, val_main_v4, val_main_v3, val_main_v2, val_main_v1, val_main_v11,
    val_main_v10, val_main_v9, val_main_v8, val_main_v0, val_main_cst, val_main_cst_0, val_main_cst_1, hg]
  simp only [ofBits_96, ofBits_eps, x_real h, coe_sum, div_real (y := 96) (by norm_num), ← EReal.coe_sub, hv, ← EReal.coe_add,
    sqrt_real hp.le, div_real (Real.sqrt_pos.mpr hp).ne', nrm, mean]

/-- The variance of a slot, before it is known to be real. -/
theorem svar_at (b : Fin 64) (r : Fin 16) :
    val_main_v17 (F := Ideal) x0 (ix3 b r 0)
      = Ideal.div (∑ d, (slots x0 b r d - Ideal.div (∑ e, slots x0 b r e) ((96 : ℝ) : EReal))
          * (slots x0 b r d - Ideal.div (∑ e, slots x0 b r e) ((96 : ℝ) : EReal))) ((96 : ℝ) : EReal) := by
  pointwise [val_main_v17, val_main_call1_v0, val_main_call1_v1, val_main_call1_v2, val_main_call1_v3, val_main_call1_v4,
    val_main_call1_v5, val_main_call1_v6, val_main_call1_v7, val_main_call1_v8, val_main_call1_v9, val_main_call1_v10,
    val_main_call1_v11, val_main_call1_v12, val_main_call1_v13, val_main_call1_call0_v0, val_main_call1_call0_v1,
    val_main_call1_cst, val_main_call1_cst_0, val_main_call1_cst_1, val_main_call1_cst_2, val_main_call1_cst_3,
    val_main_call1_cst_4, val_main_c_4]
  simp only [ofBits_96, sitofp_0, ← EReal.coe_sub, sub_zero, if_pos pos_96, slots]

/-- The layer norm of a slot. -/
theorem sn_at (b : Fin 64) (r : Fin 16) (d : Fin 96) :
    val_main_v24 (F := Ideal) x0 (ix3 b r d) = ((slotNrm eps (slots x0 b r) d : ℝ) : EReal) := by
  have hv := svar_at (x0 := x0) b r
  generalize hg : val_main_v17 (F := Ideal) x0 = v at hv
  pointwise [val_main_v24, val_main_v19, val_main_v18, val_main_v16, val_main_v15, val_main_v14, val_main_v13, val_main_v23,
    val_main_v22, val_main_v21, val_main_v20, val_main_cst_2, val_main_cst_3, val_main_cst_5, hg]
  rw [← slotNrm_div, ← hv]
  simp only [ofBits_96, ofBits_eps, slots]

/-- The attention logit. -/
theorem logit_at (h : RealArgs x1 x2 x3 x4) (b : Fin 64) (r : Fin 16) (n : Fin 1024) :
    val_main_v31 (F := Ideal) x0 x1 x2 x3 (ix3 b r n)
      = ((logit eps (weights x2) (weights x3) (slotNrm eps (slots x0 b r)) (inputs x1 b n) : ℝ) : EReal) := by
  have hs := sn_at (x0 := x0) b r
  have hx := xin_at h b n
  generalize hgs : val_main_v24 (F := Ideal) x0 = vs at hs
  generalize hgx : val_main_v12 (F := Ideal) x1 = vx at hx
  pointwise [val_main_v31, val_main_v30, val_main_v29, val_main_cst_6, val_main_v28, val_main_v25, val_main_v26, hgs, hgx]
  simp only [hs, hx, w2_real h, w3_real h, ofBits_96, sqrt_real (show (0 : ℝ) ≤ 96 by norm_num), ← EReal.coe_mul, coe_sum,
    div_real (Real.sqrt_pos.mpr (show (0 : ℝ) < 96 by norm_num)).ne', logit, proj]

/-- The attention. -/
theorem att_at (h : RealArgs x1 x2 x3 x4) (b : Fin 64) (r : Fin 16) (n : Fin 1024) :
    val_main_v42 (F := Ideal) x0 x1 x2 x3 (ix3 b r n)
      = ((slotAttn eps (weights x2) (weights x3) (slots x0 b) (inputs x1 b) r n : ℝ) : EReal) := by
  have hl := fun t => logit_at (x0 := x0) h b t n
  generalize hg : val_main_v31 (F := Ideal) x0 x1 x2 x3 = v at hl
  pointwise [val_main_v42, val_main_v41, val_main_v40, val_main_v39, val_main_cst_7, val_main_v38, val_main_v37, val_main_v36,
    val_main_v35, val_main_v34, val_main_v33, val_main_v32, val_main_cst_8, val_main_cst_9, hg]
  obtain ⟨M, hM⟩ := fold_max_real (Finset.univ : Finset (Fin 16)) Finset.univ_nonempty
    fun t => logit eps (weights x2) (weights x3) (slotNrm eps (slots x0 b t)) (inputs x1 b n)
  have hp := (sum_exp_pos fun t => logit eps (weights x2) (weights x3) (slotNrm eps (slots x0 b t)) (inputs x1 b n) - M).ne'
  simp only [hl, ofBits_ninf, hM, max_eq_right (bot_le : (⊥ : EReal) ≤ _), ← EReal.coe_sub, Ideal.exp_coe, coe_sum, div_real hp]
  rw [soft_shift (fun t n => logit eps (weights x2) (weights x3) (slotNrm eps (slots x0 b t)) (inputs x1 b n)) (fun _ => M)]
  rfl

/-- The slots after the attention step. -/
theorem sa_at (h : RealArgs x1 x2 x3 x4) (b : Fin 64) (r : Fin 16) (d : Fin 96) :
    val_main_v51 (F := Ideal) x0 x1 x2 x3 x4 x5 (ix3 b r d)
      = slotsSa (slots x0 b) (upd del (slotAttn eps (weights x2) (weights x3) (slots x0 b) (inputs x1 b))
          fun n => proj (nrm eps (inputs x1 b n)) (weights x4)) (eweights x5) r d := by
  have ha := att_at (x0 := x0) h b
  have hx := xin_at h b
  generalize hga : val_main_v42 (F := Ideal) x0 x1 x2 x3 = va at ha
  generalize hgx : val_main_v12 (F := Ideal) x1 = vx at hx
  pointwise [val_main_v51, val_main_v50, val_main_v49, val_main_v48, val_main_v47, val_main_v46, val_main_v45, val_main_v44,
    val_main_v43, val_main_cst_10, val_main_cst_11, val_main_v27, hga, hgx]
  have hd := (add_pos (rowsum_pos (slotAttn_pos eps (weights x2) (weights x3) (slots x0 b) (inputs x1 b)) r) del_pos).ne'
  change (∑ n, slotAttn eps (weights x2) (weights x3) (slots x0 b) (inputs x1 b) r n) + del ≠ 0 at hd
  simp only [ha, hx, w4_real h, ofBits_del, ← EReal.coe_mul, coe_sum, ← EReal.coe_add, div_real hd, slotsSa, upd, proj, slots, eweights]

/-- The new slots. -/
theorem out_at (h : RealArgs x1 x2 x3 x4) (b : Fin 64) (r : Fin 16) (d : Fin 96) :
    val_main_v66 (F := Ideal) x0 x1 x2 x3 x4 x5 x6 (ix3 b r d)
      = out eps del (weights x2) (weights x3) (weights x4) (eweights x5) (eweights x6) (slots x0 b) (inputs x1 b) r d := by
  have ha := att_at (x0 := x0) h b
  have hs := sa_at (x0 := x0) (x5 := x5) h b
  generalize hga : val_main_v42 (F := Ideal) x0 x1 x2 x3 = va at ha
  generalize hgs : val_main_v51 (F := Ideal) x0 x1 x2 x3 x4 x5 = vs at hs
  pointwise [val_main_v66, val_main_v65, val_main_v64, val_main_v63, val_main_v62, val_main_v61, val_main_v60, val_main_v59,
    val_main_v58, val_main_v57, val_main_v56, val_main_v55, val_main_v54, val_main_v53, val_main_v52, val_main_cst_12,
    val_main_cst_13, val_main_cst_14, val_main_cst_15, val_main_call2_v0, val_main_call2_cst, hga, hgs]
  have hd := (add_pos (cosum_pos (slotAttn_pos eps (weights x2) (weights x3) (slots x0 b) (inputs x1 b)) r) del_pos).ne'
  change (∑ t, ∑ n, slotAttn eps (weights x2) (weights x3) (slots x0 b) (inputs x1 b) r n * slotAttn eps (weights x2) (weights x3) (slots x0 b) (inputs x1 b) t n) + del ≠ 0 at hd
  simp only [ha, hs, ofBits_del, ← EReal.coe_mul, coe_sum, ← EReal.coe_add, div_real hd, out, graph, adj, co, eweights]

/-- The reference's attention array. -/
theorem attention_eq (h : RealArgs x1 x2 x3 x4) : val_main_v42 (F := Ideal) x0 x1 x2 x3 = attention x0 x1 x2 x3 := by
  funext j
  exact (congrArg _ (eq_ix3 j)).trans (att_at h (j 0) (j 1) (j 2))

/-- The reference's array of the new slots. -/
theorem newSlots_eq (h : RealArgs x1 x2 x3 x4) :
    val_main_v66 (F := Ideal) x0 x1 x2 x3 x4 x5 x6 = newSlots x0 x1 x2 x3 x4 x5 x6 := by
  funext j
  exact (congrArg _ (eq_ix3 j)).trans (out_at h (j 0) (j 1) (j 2))

end Cert.ReferenceIdeal.Values

end
-- ==== Proof.Finite.lean ====
/- What the precondition says: every entry of the inputs and of the query, key and value weights is a real number. -/
module

public import proofs.«01_k».proof.Defs
public import proofs.«01_k».proof.Proof.Consts
public import proofs.«01_k».proof.Proof.Arrays
public import proofs.«01_k».proof.Proof.Gen.Pre_finite

@[expose] public section

noncomputable section

namespace Cert.Finite

open Idealize.ShloMosaic Idealize.ShloMosaic.TcCoe Idealize.SL.Sem Cert.SlotMath

/-- An extended real whose absolute value compares below infinity is a real number. -/
theorem real_of_below {x : Ideal .f32} (h : FloatOps.cmpf .olt (FloatOps.hostAbsf x) (FloatOps.ofBits .f32 0x7F800000#32) = 1#1) :
    x = (((x : EReal).toReal : ℝ) : EReal) := by
  change BitVec.ofBool (decide (max (x : EReal) (-(x : EReal)) < Ideal.ofBits .f32 0x7F800000#32)) = 1#1 at h
  rw [ofBits_inf] at h
  have hlt : max (x : EReal) (-(x : EReal)) < ⊤ := by
    by_contra hn
    simp [hn] at h
  obtain ⟨h1, h2⟩ := max_lt_iff.mp hlt
  refine (EReal.coe_toReal h1.ne ?_).symm
  rintro rfl
  simp at h2

/-- An array all of whose entries pass the precondition's test holds real numbers. -/
theorem allReal {s : Shape} (a : FVec Ideal s .f32)
    (h : (fun j => FloatOps.cmpf (F := Ideal) .olt (FloatOps.hostAbsf (a j)) (FloatOps.ofBits .f32 0x7F800000#32)) = fun _ => 1#1) :
    AllReal a :=
  fun j => real_of_below (congrFun h j)

/-- Under the precondition the kernel's inputs and query, key and value weights hold real numbers, on every device. -/
theorem args (m : (ℓ : Loc Cert.KernelIdeal.nD Cert.KernelIdeal.τ Cert.KernelIdeal.sig) → Buf (Elt Ideal) ℓ)
    (h : Cert.Pre_KernelIdeal_finite m) (c : Dev Cert.KernelIdeal.nD) : Cert.KernelIdeal.Arrays.Args m c := by
  obtain ⟨h1, h2, h3, h4⟩ := h c
  exact ⟨allReal _ h1, allReal _ h2, allReal _ h3, allReal _ h4⟩

end Cert.Finite

end
-- ==== Proof.lean ====
/- The certificate's claims, each from the modules that prove its parts: the kernel and its idealization leave their
   arguments as they were and every counter at zero, and so does the reference; the idealization's named constants denote
   the reals they stand for; and over the extended reals the kernel's two results are the reference's two results
   whenever the inputs and the query, key and value weights are finite. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Arrays
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.SlotMath

/-- The reference ends with its arguments as they were and no counter away from zero. -/
theorem reference_quiescent : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The two named constants denote `1 / 96` and `1 / √96`. -/
theorem named_constants : Cert.preserves_Kernel_KernelIdeal :=
  ⟨IdealRules.named_const.statement Cert.KernelIdeal.κ "inv_d" .f32 0x3C2AAAAB#32 ((1 / 96 : ℝ) : EReal) rfl,
    IdealRules.named_const.statement Cert.KernelIdeal.κ "inv_sqrt_d" .f32 0x3DD105EC#32 (((Real.sqrt 96)⁻¹ : ℝ) : EReal) rfl⟩

/-- On finite inputs and query, key and value weights, and any slots, update and graph weights, the kernel and the reference both end at the new slots and the attention. -/
theorem same_results : Cert.algebraic_KernelIdeal_ReferenceIdeal_pre_finite := by
  intro m g m' g' hfin hagree
  refine ⟨fun c => newSlots (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => attention (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c =>
      ⟨(h c).1.trans (Cert.KernelIdeal.Arrays.final7 m c (Cert.Finite.args m hfin c)),
        (h c).2.1.trans (Cert.KernelIdeal.Arrays.final8 m c (Cert.Finite.args m hfin c)), (h c).2.2⟩)
      (Cert.KernelIdeal.Value.run_blocks (F := Ideal) m g)
  · refine (θ_run Cert.ReferenceIdeal.defs _ _).mono (fun _ h c => ⟨(h c).1.trans ?_, (h c).2.1.trans ?_, (h c).2.2⟩)
      (Cert.ReferenceIdeal.Value.run (F := Ideal) m' g')
    · obtain ⟨e0, e1, e2, e3, e4, e5, e6⟩ := hagree c
      refine (Cert.ReferenceIdeal.Read.val_main_v66_eq (F := Ideal) (StableHlo.launchContents m' c)).trans ?_
      refine Eq.trans ?_ (Cert.ReferenceIdeal.Values.newSlots_eq (Cert.Finite.args m hfin c))
      rw [← e0, ← e1, ← e2, ← e3, ← e4, ← e5, ← e6]
    · obtain ⟨e0, e1, e2, e3, e4, e5, e6⟩ := hagree c
      refine (Cert.ReferenceIdeal.Read.val_main_v42_eq (F := Ideal) (StableHlo.launchContents m' c)).trans ?_
      refine Eq.trans ?_ (Cert.ReferenceIdeal.Values.attention_eq (Cert.Finite.args m hfin c))
      rw [← e0, ← e1, ← e2, ← e3]

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, fun m g _ => reference_quiescent m g trivial,
    fun m g _ => reference_quiescent m g trivial, named_constants, same_results⟩

end Cert.Proof

end
